-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S16x100000 : Shape := ⟨2, ![16, 100000]⟩
abbrev S16 : Shape := ⟨1, ![16]⟩
abbrev S16x50000 : Shape := ⟨2, ![16, 50000]⟩
abbrev S_ : Shape := ⟨0, ![]⟩

class Facts : Prop where
  bcast_S_S16 : S_.BroadcastsInDim S16 (![] : Fin 0 → Fin S16.rank)
  reducesTo_S16_S_d0 : S16.ReducesTo [0] S_
  h_S_ : 0 < S_.numel
  bcast_S_S16x50000 : S_.BroadcastsInDim S16x50000 (![] : Fin 0 → Fin S16x50000.rank)
  reducesTo_S16x50000_S_d0_1 : S16x50000.ReducesTo [0, 1] S_

variable [Facts]

def fn {F : FTy → Type} [FloatOps F] (main_arg0 : FVec F S16x100000 .f32) (main_arg1 : IVec S16 32) (main_arg2 : IVec S16x50000 32) (main_arg3 : FVec F S16x50000 .f32) : IVec S_ 1 :=
  let main_c : IVec S_ 32 := constantI S_ 32 0#32
  let main_v0 : IVec S16 32 := broadcastInDim S16 ![] bcast_S_S16 main_c
  let main_v1 : IVec S16 1 := cmpi .sge main_arg1 main_v0
  let main_c_0 : IVec S_ 1 := constantI S_ 1 1#1
  let main_v2 : IVec S_ 1 := (fun x v => Host.reduce IntOp.andi x v reducesTo_S16_S_d0 h_S_) main_v1 main_c_0
  let main_c_1 : IVec S_ 32 := constantI S_ 32 16#32
  let main_v3 : IVec S16 32 := broadcastInDim S16 ![] bcast_S_S16 main_c_1
  let main_v4 : IVec S16 1 := cmpi .slt main_arg1 main_v3
  let main_c_2 : IVec S_ 1 := constantI S_ 1 1#1
  let main_v5 : IVec S_ 1 := (fun x v => Host.reduce IntOp.andi x v reducesTo_S16_S_d0 h_S_) main_v4 main_c_2
  let main_v6 : IVec S_ 1 := andi main_v2 main_v5
  let main_c_3 : IVec S_ 32 := constantI S_ 32 0#32
  let main_v7 : IVec S16x50000 32 := broadcastInDim S16x50000 ![] bcast_S_S16x50000 main_c_3
  let main_v8 : IVec S16x50000 1 := cmpi .sge main_arg2 main_v7
  let main_c_4 : IVec S_ 1 := constantI S_ 1 1#1
  let main_v9 : IVec S_ 1 := (fun x v => Host.reduce IntOp.andi x v reducesTo_S16x50000_S_d0_1 h_S_) main_v8 main_c_4
  let main_v10 : IVec S_ 1 := andi main_v6 main_v9
  let main_c_5 : IVec S_ 32 := constantI S_ 32 100000#32
  let main_v11 : IVec S16x50000 32 := broadcastInDim S16x50000 ![] bcast_S_S16x50000 main_c_5
  let main_v12 : IVec S16x50000 1 := cmpi .slt main_arg2 main_v11
  let main_c_6 : IVec S_ 1 := constantI S_ 1 1#1
  let main_v13 : IVec S_ 1 := (fun x v => Host.reduce IntOp.andi x v reducesTo_S16x50000_S_d0_1 h_S_) main_v12 main_c_6
  let main_v14 : IVec S_ 1 := andi main_v10 main_v13
  main_v14
-- ==== Kernel.lean ====
abbrev S16x100000 : Shape := ⟨2, ![16, 100000]⟩
abbrev S16 : Shape := ⟨1, ![16]⟩
abbrev S16x50000 : Shape := ⟨2, ![16, 50000]⟩
abbrev S1605632 : Shape := ⟨1, ![1605632]⟩
abbrev S802816 : Shape := ⟨1, ![802816]⟩
abbrev S8x50000 : Shape := ⟨2, ![8, 50000]⟩
abbrev S100352 : Shape := ⟨1, ![100352]⟩
abbrev S50176 : Shape := ⟨1, ![50176]⟩
abbrev S1 : Shape := ⟨1, ![1]⟩
abbrev S1x100000 : Shape := ⟨2, ![1, 100000]⟩
abbrev S100000 : Shape := ⟨1, ![100000]⟩
abbrev S1x50000 : Shape := ⟨2, ![1, 50000]⟩
abbrev S50000 : Shape := ⟨1, ![50000]⟩
abbrev S512 : Shape := ⟨1, ![512]⟩
abbrev S6272 : Shape := ⟨1, ![6272]⟩
abbrev S_ : Shape := ⟨0, ![]⟩

abbrev nBuf : Table → Nat
  | .hbm => 11
  | .local .tc .vmem => 11
  | .local .tc .smem => 1
  | .local .scVector .vmem => 6
  | _ => 0

abbrev bufTy : (tb : Table) → Fin (nBuf tb) → BufTy
  | .hbm, ⟨0, _⟩ => ⟨S16x100000, .f32⟩
  | .hbm, ⟨1, _⟩ => ⟨S16x50000, .i32⟩
  | .hbm, ⟨2, _⟩ => ⟨S16x50000, .f32⟩
  | .hbm, ⟨3, _⟩ => ⟨S1605632, .f32⟩
  | .hbm, ⟨4, _⟩ => ⟨S802816, .i32⟩
  | .hbm, ⟨5, _⟩ => ⟨S802816, .f32⟩
  | .hbm, ⟨6, _⟩ => ⟨S512, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .local .tc .vmem, ⟨0, _⟩ => ⟨S16x100000, .f32⟩
  | .local .tc .vmem, ⟨1, _⟩ => ⟨S8x50000, .i32⟩
  | .local .tc .vmem, ⟨2, _⟩ => ⟨S8x50000, .i32⟩
  | .local .tc .vmem, ⟨3, _⟩ => ⟨S8x50000, .f32⟩
  | .local .tc .vmem, ⟨4, _⟩ => ⟨S8x50000, .f32⟩
  | .local .tc .vmem, ⟨5, _⟩ => ⟨S100352, .f32⟩
  | .local .tc .vmem, ⟨6, _⟩ => ⟨S100352, .f32⟩
  | .local .tc .vmem, ⟨7, _⟩ => ⟨S50176, .i32⟩
  | .local .tc .vmem, ⟨8, _⟩ => ⟨S50176, .i32⟩
  | .local .tc .vmem, ⟨9, _⟩ => ⟨S50176, .f32⟩
  | .local .tc .vmem, ⟨10, _⟩ => ⟨S50176, .f32⟩
  | .local .tc .smem, ⟨0, _⟩ => ⟨S16, .i32⟩
  | .local .scVector .vmem, ⟨0, _⟩ => ⟨S100000, .f32⟩
  | .local .scVector .vmem, ⟨1, _⟩ => ⟨S6272, .i32⟩
  | .local .scVector .vmem, ⟨2, _⟩ => ⟨S6272, .f32⟩
  | .local .scVector .vmem, ⟨3, _⟩ => ⟨S6272, .i32⟩
  | .local .scVector .vmem, ⟨4, _⟩ => ⟨S6272, .f32⟩
  | .local .scVector .vmem, ⟨5, _⟩ => ⟨S16, .f32⟩
  | _, _ => ⟨S16x100000, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => false
  | ⟨12, _⟩ => false
  | ⟨13, _⟩ => false
  | ⟨14, _⟩ => false
  | ⟨15, _⟩ => false
  | ⟨16, _⟩ => false
  | _ => false

abbrev sig : RefSig :=
  ofTables nBuf rfl bufTy 4 17 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_arg1 : Ref sig .tc := ⟨.smem, 0, rfl⟩
abbrev main_v0_0_scv : Ref sig .scVector := ⟨.hbm, 3, rfl⟩
abbrev main_v0_1_scv : Ref sig .scVector := ⟨.hbm, 4, rfl⟩
abbrev main_v0_2_scv : Ref sig .scVector := ⟨.hbm, 5, rfl⟩
abbrev main_v1_scv : Ref sig .scVector := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc1_scratch5 : Ref sig .scVector := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 8], ![false, false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let v2 : Index := Scalar.indexCast v1
  ![v2.toNat]
def k0_off2 (v3 : BitVec 32) : Fin 2 → Nat :=
  let v4 : Index := Scalar.indexCast v3
  let c0 : Index := 0#32
  ![v4.toNat, 0]

def k0_chk1 (v3 : BitVec 32) : Prop :=
  (∀ a, (k0_off2 v3) a + S1x100000.size a ≤ S16x100000.size a)
theorem k0_off2_inb : ∀ (v3 : BitVec 32) (k0_hw1 : k0_chk1 v3), ∀ a, (k0_off2 v3) a + S1x100000.size a ≤ S16x100000.size a := fun v3 k0_hw1 => k0_hw1

def k0_off3 (i : grid0.Coords) : Fin 2 → Nat :=
  let arg1 : BitVec 32 := BitVec.ofNat 32 (i 1).val
  let v8 : Index := Scalar.indexCast arg1
  let c0_1 : Index := 0#32
  ![v8.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 1 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  ![v1.toNat]

def cc0_transform_4 (i : grid0.Coords) : Fin 1 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  ![v1.toNat]

def cc0_transform_5 (i : grid0.Coords) : Fin 1 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  ![v1.toNat]

abbrev stage0_0 : Fin 1 → Memref sig .tc .vmem S16x100000 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S8x50000 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8x50000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S100352 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S50176 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S50176 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![2, 16], ![false, false]⟩

def k1_mult1 (i : grid1.Coords) : BitVec 32 :=
  let arg1 : BitVec 32 := BitVec.ofNat 32 (i 1).val
  let c100352_i32 : BitVec 32 := 100352#32
  let v1 : BitVec 32 := Scalar.muli arg1 c100352_i32
  v1
def k1_off1 (i : grid1.Coords) : Fin 1 → Nat :=
  let arg1 : BitVec 32 := BitVec.ofNat 32 (i 1).val
  let c100352_i32 : BitVec 32 := 100352#32
  let v1 : BitVec 32 := Scalar.muli arg1 c100352_i32
  let v2 : BitVec 32 := v1
  ![v2.toNat]
def k1_mult2 (i : grid1.Coords) : BitVec 32 :=
  let arg1 : BitVec 32 := BitVec.ofNat 32 (i 1).val
  let c50176_i32 : BitVec 32 := 50176#32
  let v5 : BitVec 32 := Scalar.muli arg1 c50176_i32
  let arg0 : BitVec 32 := BitVec.ofNat 32 (i 0).val
  let c25000_i32 : BitVec 32 := 25000#32
  let v6 : BitVec 32 := Scalar.muli arg0 c25000_i32
  let v7 : BitVec 32 := Scalar.addi v5 v6
  let c0_i32 : BitVec 32 := 0#32
  let v8 : BitVec 32 := Scalar.addi v7 c0_i32
  v8
def k1_off2 (i : grid1.Coords) (c0_i32 : BitVec 32) : Fin 1 → Nat :=
  let arg1 : BitVec 32 := BitVec.ofNat 32 (i 1).val
  let c50176_i32 : BitVec 32 := 50176#32
  let v5 : BitVec 32 := Scalar.muli arg1 c50176_i32
  let arg0 : BitVec 32 := BitVec.ofNat 32 (i 0).val
  let c25000_i32 : BitVec 32 := 25000#32
  let v6 : BitVec 32 := Scalar.muli arg0 c25000_i32
  let v7 : BitVec 32 := Scalar.addi v5 v6
  let v8 : BitVec 32 := Scalar.addi v7 c0_i32
  let v9 : BitVec 32 := v8
  ![v9.toNat]
def k1_off2_at (r : Fin 4) : BitVec 32 :=
  if r.val < 2 then
    if r.val < 1 then
      0#32
    else
      6272#32
  else
    if r.val < 3 then
      12544#32
    else
      18728#32
def k1_mult3 (i : grid1.Coords) : BitVec 32 :=
  let arg1 : BitVec 32 := BitVec.ofNat 32 (i 1).val
  let c50176_i32 : BitVec 32 := 50176#32
  let v5 : BitVec 32 := Scalar.muli arg1 c50176_i32
  let arg0 : BitVec 32 := BitVec.ofNat 32 (i 0).val
  let c25000_i32 : BitVec 32 := 25000#32
  let v6 : BitVec 32 := Scalar.muli arg0 c25000_i32
  let v7 : BitVec 32 := Scalar.addi v5 v6
  let c6272_i32 : BitVec 32 := 6272#32
  let v14 : BitVec 32 := Scalar.addi v7 c6272_i32
  v14
@[reducible] def k1_t1_loop : Scf.Loop 32 :=
  let c0_i32_7 : BitVec 32 := 0#32
  let c49_i32 : BitVec 32 := 49#32
  let v34 : BitVec 32 := Scalar.addi c0_i32_7 c49_i32
  let c1_i32 : BitVec 32 := 1#32
  ⟨c0_i32_7, v34, c1_i32⟩
def k1_off3 (k1_t1 : Fin k1_t1_loop.trips) : Fin 1 → Nat :=
  let c0_i32_7 : BitVec 32 := 0#32
  let c1_i32 : BitVec 32 := 1#32
  let arg17 : BitVec 32 := Scf.iv c0_i32_7 c1_i32 k1_t1
  let c8_i32_23 : BitVec 32 := 8#32
  let v101 : BitVec 32 := Scalar.muli arg17 c8_i32_23
  let c0_i32_24 : BitVec 32 := 0#32
  let v102 : BitVec 32 := Scalar.addi v101 c0_i32_24
  let c16_i32_25 : BitVec 32 := 16#32
  let v103 : BitVec 32 := Scalar.muli v102 c16_i32_25
  let v104 : Index := Scalar.indexCast v103
  ![v104.toNat]

def k1_chk1 (v105 : IVec S16 32) : Prop :=
  (∀ a x, ((![v105] : Fin 1 → IVec S16 32) a x).toNat < S100000.size a)
theorem k1_idx1_inb : ∀ (v105 : IVec S16 32) (k1_hw1 : k1_chk1 v105), ∀ a x, ((![v105] : Fin 1 → IVec S16 32) a x).toNat < S100000.size a := fun v105 k1_hw1 => k1_hw1
def k1_off4 (k1_t1 : Fin k1_t1_loop.trips) (c0_i32_24 : BitVec 32) : Fin 1 → Nat :=
  let c0_i32_7 : BitVec 32 := 0#32
  let c1_i32 : BitVec 32 := 1#32
  let arg17 : BitVec 32 := Scf.iv c0_i32_7 c1_i32 k1_t1
  let c8_i32_23 : BitVec 32 := 8#32
  let v101 : BitVec 32 := Scalar.muli arg17 c8_i32_23
  let v102 : BitVec 32 := Scalar.addi v101 c0_i32_24
  let c16_i32_25 : BitVec 32 := 16#32
  let v103 : BitVec 32 := Scalar.muli v102 c16_i32_25
  let v107 : Index := Scalar.indexCast v103
  ![v107.toNat]

def k1_chk2 (v116 : IVec S16 32) : Prop :=
  (∀ a x, ((![v116] : Fin 1 → IVec S16 32) a x).toNat < S100000.size a)
theorem k1_idx2_inb : ∀ (v116 : IVec S16 32) (k1_hw2 : k1_chk2 v116), ∀ a x, ((![v116] : Fin 1 → IVec S16 32) a x).toNat < S100000.size a := fun v116 k1_hw2 => k1_hw2
def k1_off5 (k1_t1 : Fin k1_t1_loop.trips) (c1_i32_27 : BitVec 32) : Fin 1 → Nat :=
  let c0_i32_7 : BitVec 32 := 0#32
  let c1_i32 : BitVec 32 := 1#32
  let arg17 : BitVec 32 := Scf.iv c0_i32_7 c1_i32 k1_t1
  let c8_i32_26 : BitVec 32 := 8#32
  let v112 : BitVec 32 := Scalar.muli arg17 c8_i32_26
  let v113 : BitVec 32 := Scalar.addi v112 c1_i32_27
  let c16_i32_28 : BitVec 32 := 16#32
  let v114 : BitVec 32 := Scalar.muli v113 c16_i32_28
  let v118 : Index := Scalar.indexCast v114
  ![v118.toNat]

def k1_chk3 (v127 : IVec S16 32) : Prop :=
  (∀ a x, ((![v127] : Fin 1 → IVec S16 32) a x).toNat < S100000.size a)
theorem k1_idx3_inb : ∀ (v127 : IVec S16 32) (k1_hw3 : k1_chk3 v127), ∀ a x, ((![v127] : Fin 1 → IVec S16 32) a x).toNat < S100000.size a := fun v127 k1_hw3 => k1_hw3
def k1_off6 (k1_t1 : Fin k1_t1_loop.trips) (c2_i32_30 : BitVec 32) : Fin 1 → Nat :=
  let c0_i32_7 : BitVec 32 := 0#32
  let c1_i32 : BitVec 32 := 1#32
  let arg17 : BitVec 32 := Scf.iv c0_i32_7 c1_i32 k1_t1
  let c8_i32_29 : BitVec 32 := 8#32
  let v123 : BitVec 32 := Scalar.muli arg17 c8_i32_29
  let v124 : BitVec 32 := Scalar.addi v123 c2_i32_30
  let c16_i32_31 : BitVec 32 := 16#32
  let v125 : BitVec 32 := Scalar.muli v124 c16_i32_31
  let v129 : Index := Scalar.indexCast v125
  ![v129.toNat]

def k1_chk4 (v138 : IVec S16 32) : Prop :=
  (∀ a x, ((![v138] : Fin 1 → IVec S16 32) a x).toNat < S100000.size a)
theorem k1_idx4_inb : ∀ (v138 : IVec S16 32) (k1_hw4 : k1_chk4 v138), ∀ a x, ((![v138] : Fin 1 → IVec S16 32) a x).toNat < S100000.size a := fun v138 k1_hw4 => k1_hw4
def k1_off7 (k1_t1 : Fin k1_t1_loop.trips) (c3_i32 : BitVec 32) : Fin 1 → Nat :=
  let c0_i32_7 : BitVec 32 := 0#32
  let c1_i32 : BitVec 32 := 1#32
  let arg17 : BitVec 32 := Scf.iv c0_i32_7 c1_i32 k1_t1
  let c8_i32_32 : BitVec 32 := 8#32
  let v134 : BitVec 32 := Scalar.muli arg17 c8_i32_32
  let v135 : BitVec 32 := Scalar.addi v134 c3_i32
  let c16_i32_33 : BitVec 32 := 16#32
  let v136 : BitVec 32 := Scalar.muli v135 c16_i32_33
  let v140 : Index := Scalar.indexCast v136
  ![v140.toNat]

def k1_chk5 (v149 : IVec S16 32) : Prop :=
  (∀ a x, ((![v149] : Fin 1 → IVec S16 32) a x).toNat < S100000.size a)
theorem k1_idx5_inb : ∀ (v149 : IVec S16 32) (k1_hw5 : k1_chk5 v149), ∀ a x, ((![v149] : Fin 1 → IVec S16 32) a x).toNat < S100000.size a := fun v149 k1_hw5 => k1_hw5
def k1_off8 (k1_t1 : Fin k1_t1_loop.trips) (c4_i32 : BitVec 32) : Fin 1 → Nat :=
  let c0_i32_7 : BitVec 32 := 0#32
  let c1_i32 : BitVec 32 := 1#32
  let arg17 : BitVec 32 := Scf.iv c0_i32_7 c1_i32 k1_t1
  let c8_i32_34 : BitVec 32 := 8#32
  let v145 : BitVec 32 := Scalar.muli arg17 c8_i32_34
  let v146 : BitVec 32 := Scalar.addi v145 c4_i32
  let c16_i32_35 : BitVec 32 := 16#32
  let v147 : BitVec 32 := Scalar.muli v146 c16_i32_35
  let v151 : Index := Scalar.indexCast v147
  ![v151.toNat]

def k1_chk6 (v160 : IVec S16 32) : Prop :=
  (∀ a x, ((![v160] : Fin 1 → IVec S16 32) a x).toNat < S100000.size a)
theorem k1_idx6_inb : ∀ (v160 : IVec S16 32) (k1_hw6 : k1_chk6 v160), ∀ a x, ((![v160] : Fin 1 → IVec S16 32) a x).toNat < S100000.size a := fun v160 k1_hw6 => k1_hw6
def k1_off9 (k1_t1 : Fin k1_t1_loop.trips) (c5_i32 : BitVec 32) : Fin 1 → Nat :=
  let c0_i32_7 : BitVec 32 := 0#32
  let c1_i32 : BitVec 32 := 1#32
  let arg17 : BitVec 32 := Scf.iv c0_i32_7 c1_i32 k1_t1
  let c8_i32_36 : BitVec 32 := 8#32
  let v156 : BitVec 32 := Scalar.muli arg17 c8_i32_36
  let v157 : BitVec 32 := Scalar.addi v156 c5_i32
  let c16_i32_37 : BitVec 32 := 16#32
  let v158 : BitVec 32 := Scalar.muli v157 c16_i32_37
  let v162 : Index := Scalar.indexCast v158
  ![v162.toNat]

def k1_chk7 (v171 : IVec S16 32) : Prop :=
  (∀ a x, ((![v171] : Fin 1 → IVec S16 32) a x).toNat < S100000.size a)
theorem k1_idx7_inb : ∀ (v171 : IVec S16 32) (k1_hw7 : k1_chk7 v171), ∀ a x, ((![v171] : Fin 1 → IVec S16 32) a x).toNat < S100000.size a := fun v171 k1_hw7 => k1_hw7
def k1_off10 (k1_t1 : Fin k1_t1_loop.trips) (c6_i32 : BitVec 32) : Fin 1 → Nat :=
  let c0_i32_7 : BitVec 32 := 0#32
  let c1_i32 : BitVec 32 := 1#32
  let arg17 : BitVec 32 := Scf.iv c0_i32_7 c1_i32 k1_t1
  let c8_i32_38 : BitVec 32 := 8#32
  let v167 : BitVec 32 := Scalar.muli arg17 c8_i32_38
  let v168 : BitVec 32 := Scalar.addi v167 c6_i32
  let c16_i32_39 : BitVec 32 := 16#32
  let v169 : BitVec 32 := Scalar.muli v168 c16_i32_39
  let v173 : Index := Scalar.indexCast v169
  ![v173.toNat]

def k1_chk8 (v182 : IVec S16 32) : Prop :=
  (∀ a x, ((![v182] : Fin 1 → IVec S16 32) a x).toNat < S100000.size a)
theorem k1_idx8_inb : ∀ (v182 : IVec S16 32) (k1_hw8 : k1_chk8 v182), ∀ a x, ((![v182] : Fin 1 → IVec S16 32) a x).toNat < S100000.size a := fun v182 k1_hw8 => k1_hw8
def k1_off11 (k1_t1 : Fin k1_t1_loop.trips) : Fin 1 → Nat :=
  let c0_i32_7 : BitVec 32 := 0#32
  let c1_i32 : BitVec 32 := 1#32
  let arg17 : BitVec 32 := Scf.iv c0_i32_7 c1_i32 k1_t1
  let c8_i32_40 : BitVec 32 := 8#32
  let v178 : BitVec 32 := Scalar.muli arg17 c8_i32_40
  let c7_i32 : BitVec 32 := 7#32
  let v179 : BitVec 32 := Scalar.addi v178 c7_i32
  let c16_i32_41 : BitVec 32 := 16#32
  let v180 : BitVec 32 := Scalar.muli v179 c16_i32_41
  let v184 : Index := Scalar.indexCast v180
  ![v184.toNat]
def k1_mult4 (i : grid1.Coords) : BitVec 32 :=
  let arg1 : BitVec 32 := BitVec.ofNat 32 (i 1).val
  let c50176_i32 : BitVec 32 := 50176#32
  let v5 : BitVec 32 := Scalar.muli arg1 c50176_i32
  let arg0 : BitVec 32 := BitVec.ofNat 32 (i 0).val
  let c25000_i32 : BitVec 32 := 25000#32
  let v6 : BitVec 32 := Scalar.muli arg0 c25000_i32
  let v7 : BitVec 32 := Scalar.addi v5 v6
  let c12544_i32 : BitVec 32 := 12544#32
  let v36 : BitVec 32 := Scalar.addi v7 c12544_i32
  v36
@[reducible] def k1_t2_loop : Scf.Loop 32 :=
  let c0_i32_9 : BitVec 32 := 0#32
  let c49_i32_10 : BitVec 32 := 49#32
  let v46 : BitVec 32 := Scalar.addi c0_i32_9 c49_i32_10
  let c1_i32_11 : BitVec 32 := 1#32
  ⟨c0_i32_9, v46, c1_i32_11⟩
def k1_off12 (k1_t2 : Fin k1_t2_loop.trips) : Fin 1 → Nat :=
  let c0_i32_9 : BitVec 32 := 0#32
  let c1_i32_11 : BitVec 32 := 1#32
  let arg17 : BitVec 32 := Scf.iv c0_i32_9 c1_i32_11 k1_t2
  let c8_i32_23 : BitVec 32 := 8#32
  let v101 : BitVec 32 := Scalar.muli arg17 c8_i32_23
  let c0_i32_24 : BitVec 32 := 0#32
  let v102 : BitVec 32 := Scalar.addi v101 c0_i32_24
  let c16_i32_25 : BitVec 32 := 16#32
  let v103 : BitVec 32 := Scalar.muli v102 c16_i32_25
  let v104 : Index := Scalar.indexCast v103
  ![v104.toNat]

def k1_chk9 (v105 : IVec S16 32) : Prop :=
  (∀ a x, ((![v105] : Fin 1 → IVec S16 32) a x).toNat < S100000.size a)
theorem k1_idx9_inb : ∀ (v105 : IVec S16 32) (k1_hw9 : k1_chk9 v105), ∀ a x, ((![v105] : Fin 1 → IVec S16 32) a x).toNat < S100000.size a := fun v105 k1_hw9 => k1_hw9
def k1_off13 (k1_t2 : Fin k1_t2_loop.trips) (c0_i32_24 : BitVec 32) : Fin 1 → Nat :=
  let c0_i32_9 : BitVec 32 := 0#32
  let c1_i32_11 : BitVec 32 := 1#32
  let arg17 : BitVec 32 := Scf.iv c0_i32_9 c1_i32_11 k1_t2
  let c8_i32_23 : BitVec 32 := 8#32
  let v101 : BitVec 32 := Scalar.muli arg17 c8_i32_23
  let v102 : BitVec 32 := Scalar.addi v101 c0_i32_24
  let c16_i32_25 : BitVec 32 := 16#32
  let v103 : BitVec 32 := Scalar.muli v102 c16_i32_25
  let v107 : Index := Scalar.indexCast v103
  ![v107.toNat]

def k1_chk10 (v116 : IVec S16 32) : Prop :=
  (∀ a x, ((![v116] : Fin 1 → IVec S16 32) a x).toNat < S100000.size a)
theorem k1_idx10_inb : ∀ (v116 : IVec S16 32) (k1_hw10 : k1_chk10 v116), ∀ a x, ((![v116] : Fin 1 → IVec S16 32) a x).toNat < S100000.size a := fun v116 k1_hw10 => k1_hw10
def k1_off14 (k1_t2 : Fin k1_t2_loop.trips) (c1_i32_27 : BitVec 32) : Fin 1 → Nat :=
  let c0_i32_9 : BitVec 32 := 0#32
  let c1_i32_11 : BitVec 32 := 1#32
  let arg17 : BitVec 32 := Scf.iv c0_i32_9 c1_i32_11 k1_t2
  let c8_i32_26 : BitVec 32 := 8#32
  let v112 : BitVec 32 := Scalar.muli arg17 c8_i32_26
  let v113 : BitVec 32 := Scalar.addi v112 c1_i32_27
  let c16_i32_28 : BitVec 32 := 16#32
  let v114 : BitVec 32 := Scalar.muli v113 c16_i32_28
  let v118 : Index := Scalar.indexCast v114
  ![v118.toNat]

def k1_chk11 (v127 : IVec S16 32) : Prop :=
  (∀ a x, ((![v127] : Fin 1 → IVec S16 32) a x).toNat < S100000.size a)
theorem k1_idx11_inb : ∀ (v127 : IVec S16 32) (k1_hw11 : k1_chk11 v127), ∀ a x, ((![v127] : Fin 1 → IVec S16 32) a x).toNat < S100000.size a := fun v127 k1_hw11 => k1_hw11
def k1_off15 (k1_t2 : Fin k1_t2_loop.trips) (c2_i32_30 : BitVec 32) : Fin 1 → Nat :=
  let c0_i32_9 : BitVec 32 := 0#32
  let c1_i32_11 : BitVec 32 := 1#32
  let arg17 : BitVec 32 := Scf.iv c0_i32_9 c1_i32_11 k1_t2
  let c8_i32_29 : BitVec 32 := 8#32
  let v123 : BitVec 32 := Scalar.muli arg17 c8_i32_29
  let v124 : BitVec 32 := Scalar.addi v123 c2_i32_30
  let c16_i32_31 : BitVec 32 := 16#32
  let v125 : BitVec 32 := Scalar.muli v124 c16_i32_31
  let v129 : Index := Scalar.indexCast v125
  ![v129.toNat]

def k1_chk12 (v138 : IVec S16 32) : Prop :=
  (∀ a x, ((![v138] : Fin 1 → IVec S16 32) a x).toNat < S100000.size a)
theorem k1_idx12_inb : ∀ (v138 : IVec S16 32) (k1_hw12 : k1_chk12 v138), ∀ a x, ((![v138] : Fin 1 → IVec S16 32) a x).toNat < S100000.size a := fun v138 k1_hw12 => k1_hw12
def k1_off16 (k1_t2 : Fin k1_t2_loop.trips) (c3_i32 : BitVec 32) : Fin 1 → Nat :=
  let c0_i32_9 : BitVec 32 := 0#32
  let c1_i32_11 : BitVec 32 := 1#32
  let arg17 : BitVec 32 := Scf.iv c0_i32_9 c1_i32_11 k1_t2
  let c8_i32_32 : BitVec 32 := 8#32
  let v134 : BitVec 32 := Scalar.muli arg17 c8_i32_32
  let v135 : BitVec 32 := Scalar.addi v134 c3_i32
  let c16_i32_33 : BitVec 32 := 16#32
  let v136 : BitVec 32 := Scalar.muli v135 c16_i32_33
  let v140 : Index := Scalar.indexCast v136
  ![v140.toNat]

def k1_chk13 (v149 : IVec S16 32) : Prop :=
  (∀ a x, ((![v149] : Fin 1 → IVec S16 32) a x).toNat < S100000.size a)
theorem k1_idx13_inb : ∀ (v149 : IVec S16 32) (k1_hw13 : k1_chk13 v149), ∀ a x, ((![v149] : Fin 1 → IVec S16 32) a x).toNat < S100000.size a := fun v149 k1_hw13 => k1_hw13
def k1_off17 (k1_t2 : Fin k1_t2_loop.trips) (c4_i32 : BitVec 32) : Fin 1 → Nat :=
  let c0_i32_9 : BitVec 32 := 0#32
  let c1_i32_11 : BitVec 32 := 1#32
  let arg17 : BitVec 32 := Scf.iv c0_i32_9 c1_i32_11 k1_t2
  let c8_i32_34 : BitVec 32 := 8#32
  let v145 : BitVec 32 := Scalar.muli arg17 c8_i32_34
  let v146 : BitVec 32 := Scalar.addi v145 c4_i32
  let c16_i32_35 : BitVec 32 := 16#32
  let v147 : BitVec 32 := Scalar.muli v146 c16_i32_35
  let v151 : Index := Scalar.indexCast v147
  ![v151.toNat]

def k1_chk14 (v160 : IVec S16 32) : Prop :=
  (∀ a x, ((![v160] : Fin 1 → IVec S16 32) a x).toNat < S100000.size a)
theorem k1_idx14_inb : ∀ (v160 : IVec S16 32) (k1_hw14 : k1_chk14 v160), ∀ a x, ((![v160] : Fin 1 → IVec S16 32) a x).toNat < S100000.size a := fun v160 k1_hw14 => k1_hw14
def k1_off18 (k1_t2 : Fin k1_t2_loop.trips) (c5_i32 : BitVec 32) : Fin 1 → Nat :=
  let c0_i32_9 : BitVec 32 := 0#32
  let c1_i32_11 : BitVec 32 := 1#32
  let arg17 : BitVec 32 := Scf.iv c0_i32_9 c1_i32_11 k1_t2
  let c8_i32_36 : BitVec 32 := 8#32
  let v156 : BitVec 32 := Scalar.muli arg17 c8_i32_36
  let v157 : BitVec 32 := Scalar.addi v156 c5_i32
  let c16_i32_37 : BitVec 32 := 16#32
  let v158 : BitVec 32 := Scalar.muli v157 c16_i32_37
  let v162 : Index := Scalar.indexCast v158
  ![v162.toNat]

def k1_chk15 (v171 : IVec S16 32) : Prop :=
  (∀ a x, ((![v171] : Fin 1 → IVec S16 32) a x).toNat < S100000.size a)
theorem k1_idx15_inb : ∀ (v171 : IVec S16 32) (k1_hw15 : k1_chk15 v171), ∀ a x, ((![v171] : Fin 1 → IVec S16 32) a x).toNat < S100000.size a := fun v171 k1_hw15 => k1_hw15
def k1_off19 (k1_t2 : Fin k1_t2_loop.trips) (c6_i32 : BitVec 32) : Fin 1 → Nat :=
  let c0_i32_9 : BitVec 32 := 0#32
  let c1_i32_11 : BitVec 32 := 1#32
  let arg17 : BitVec 32 := Scf.iv c0_i32_9 c1_i32_11 k1_t2
  let c8_i32_38 : BitVec 32 := 8#32
  let v167 : BitVec 32 := Scalar.muli arg17 c8_i32_38
  let v168 : BitVec 32 := Scalar.addi v167 c6_i32
  let c16_i32_39 : BitVec 32 := 16#32
  let v169 : BitVec 32 := Scalar.muli v168 c16_i32_39
  let v173 : Index := Scalar.indexCast v169
  ![v173.toNat]

def k1_chk16 (v182 : IVec S16 32) : Prop :=
  (∀ a x, ((![v182] : Fin 1 → IVec S16 32) a x).toNat < S100000.size a)
theorem k1_idx16_inb : ∀ (v182 : IVec S16 32) (k1_hw16 : k1_chk16 v182), ∀ a x, ((![v182] : Fin 1 → IVec S16 32) a x).toNat < S100000.size a := fun v182 k1_hw16 => k1_hw16
def k1_off20 (k1_t2 : Fin k1_t2_loop.trips) : Fin 1 → Nat :=
  let c0_i32_9 : BitVec 32 := 0#32
  let c1_i32_11 : BitVec 32 := 1#32
  let arg17 : BitVec 32 := Scf.iv c0_i32_9 c1_i32_11 k1_t2
  let c8_i32_40 : BitVec 32 := 8#32
  let v178 : BitVec 32 := Scalar.muli arg17 c8_i32_40
  let c7_i32 : BitVec 32 := 7#32
  let v179 : BitVec 32 := Scalar.addi v178 c7_i32
  let c16_i32_41 : BitVec 32 := 16#32
  let v180 : BitVec 32 := Scalar.muli v179 c16_i32_41
  let v184 : Index := Scalar.indexCast v180
  ![v184.toNat]
def k1_mult5 (i : grid1.Coords) : BitVec 32 :=
  let arg1 : BitVec 32 := BitVec.ofNat 32 (i 1).val
  let c50176_i32 : BitVec 32 := 50176#32
  let v5 : BitVec 32 := Scalar.muli arg1 c50176_i32
  let arg0 : BitVec 32 := BitVec.ofNat 32 (i 0).val
  let c25000_i32 : BitVec 32 := 25000#32
  let v6 : BitVec 32 := Scalar.muli arg0 c25000_i32
  let v7 : BitVec 32 := Scalar.addi v5 v6
  let c18728_i32 : BitVec 32 := 18728#32
  let v48 : BitVec 32 := Scalar.addi v7 c18728_i32
  v48
@[reducible] def k1_t3_loop : Scf.Loop 32 :=
  let c0_i32_13 : BitVec 32 := 0#32
  let c49_i32_14 : BitVec 32 := 49#32
  let v58 : BitVec 32 := Scalar.addi c0_i32_13 c49_i32_14
  let c1_i32_15 : BitVec 32 := 1#32
  ⟨c0_i32_13, v58, c1_i32_15⟩
def k1_off21 (k1_t3 : Fin k1_t3_loop.trips) : Fin 1 → Nat :=
  let c0_i32_13 : BitVec 32 := 0#32
  let c1_i32_15 : BitVec 32 := 1#32
  let arg17 : BitVec 32 := Scf.iv c0_i32_13 c1_i32_15 k1_t3
  let c8_i32_23 : BitVec 32 := 8#32
  let v101 : BitVec 32 := Scalar.muli arg17 c8_i32_23
  let c0_i32_24 : BitVec 32 := 0#32
  let v102 : BitVec 32 := Scalar.addi v101 c0_i32_24
  let c16_i32_25 : BitVec 32 := 16#32
  let v103 : BitVec 32 := Scalar.muli v102 c16_i32_25
  let v104 : Index := Scalar.indexCast v103
  ![v104.toNat]

def k1_chk17 (v105 : IVec S16 32) : Prop :=
  (∀ a x, ((![v105] : Fin 1 → IVec S16 32) a x).toNat < S100000.size a)
theorem k1_idx17_inb : ∀ (v105 : IVec S16 32) (k1_hw17 : k1_chk17 v105), ∀ a x, ((![v105] : Fin 1 → IVec S16 32) a x).toNat < S100000.size a := fun v105 k1_hw17 => k1_hw17
def k1_off22 (k1_t3 : Fin k1_t3_loop.trips) (c0_i32_24 : BitVec 32) : Fin 1 → Nat :=
  let c0_i32_13 : BitVec 32 := 0#32
  let c1_i32_15 : BitVec 32 := 1#32
  let arg17 : BitVec 32 := Scf.iv c0_i32_13 c1_i32_15 k1_t3
  let c8_i32_23 : BitVec 32 := 8#32
  let v101 : BitVec 32 := Scalar.muli arg17 c8_i32_23
  let v102 : BitVec 32 := Scalar.addi v101 c0_i32_24
  let c16_i32_25 : BitVec 32 := 16#32
  let v103 : BitVec 32 := Scalar.muli v102 c16_i32_25
  let v107 : Index := Scalar.indexCast v103
  ![v107.toNat]

def k1_chk18 (v116 : IVec S16 32) : Prop :=
  (∀ a x, ((![v116] : Fin 1 → IVec S16 32) a x).toNat < S100000.size a)
theorem k1_idx18_inb : ∀ (v116 : IVec S16 32) (k1_hw18 : k1_chk18 v116), ∀ a x, ((![v116] : Fin 1 → IVec S16 32) a x).toNat < S100000.size a := fun v116 k1_hw18 => k1_hw18
def k1_off23 (k1_t3 : Fin k1_t3_loop.trips) (c1_i32_27 : BitVec 32) : Fin 1 → Nat :=
  let c0_i32_13 : BitVec 32 := 0#32
  let c1_i32_15 : BitVec 32 := 1#32
  let arg17 : BitVec 32 := Scf.iv c0_i32_13 c1_i32_15 k1_t3
  let c8_i32_26 : BitVec 32 := 8#32
  let v112 : BitVec 32 := Scalar.muli arg17 c8_i32_26
  let v113 : BitVec 32 := Scalar.addi v112 c1_i32_27
  let c16_i32_28 : BitVec 32 := 16#32
  let v114 : BitVec 32 := Scalar.muli v113 c16_i32_28
  let v118 : Index := Scalar.indexCast v114
  ![v118.toNat]

def k1_chk19 (v127 : IVec S16 32) : Prop :=
  (∀ a x, ((![v127] : Fin 1 → IVec S16 32) a x).toNat < S100000.size a)
theorem k1_idx19_inb : ∀ (v127 : IVec S16 32) (k1_hw19 : k1_chk19 v127), ∀ a x, ((![v127] : Fin 1 → IVec S16 32) a x).toNat < S100000.size a := fun v127 k1_hw19 => k1_hw19
def k1_off24 (k1_t3 : Fin k1_t3_loop.trips) (c2_i32_30 : BitVec 32) : Fin 1 → Nat :=
  let c0_i32_13 : BitVec 32 := 0#32
  let c1_i32_15 : BitVec 32 := 1#32
  let arg17 : BitVec 32 := Scf.iv c0_i32_13 c1_i32_15 k1_t3
  let c8_i32_29 : BitVec 32 := 8#32
  let v123 : BitVec 32 := Scalar.muli arg17 c8_i32_29
  let v124 : BitVec 32 := Scalar.addi v123 c2_i32_30
  let c16_i32_31 : BitVec 32 := 16#32
  let v125 : BitVec 32 := Scalar.muli v124 c16_i32_31
  let v129 : Index := Scalar.indexCast v125
  ![v129.toNat]

def k1_chk20 (v138 : IVec S16 32) : Prop :=
  (∀ a x, ((![v138] : Fin 1 → IVec S16 32) a x).toNat < S100000.size a)
theorem k1_idx20_inb : ∀ (v138 : IVec S16 32) (k1_hw20 : k1_chk20 v138), ∀ a x, ((![v138] : Fin 1 → IVec S16 32) a x).toNat < S100000.size a := fun v138 k1_hw20 => k1_hw20
def k1_off25 (k1_t3 : Fin k1_t3_loop.trips) (c3_i32 : BitVec 32) : Fin 1 → Nat :=
  let c0_i32_13 : BitVec 32 := 0#32
  let c1_i32_15 : BitVec 32 := 1#32
  let arg17 : BitVec 32 := Scf.iv c0_i32_13 c1_i32_15 k1_t3
  let c8_i32_32 : BitVec 32 := 8#32
  let v134 : BitVec 32 := Scalar.muli arg17 c8_i32_32
  let v135 : BitVec 32 := Scalar.addi v134 c3_i32
  let c16_i32_33 : BitVec 32 := 16#32
  let v136 : BitVec 32 := Scalar.muli v135 c16_i32_33
  let v140 : Index := Scalar.indexCast v136
  ![v140.toNat]

def k1_chk21 (v149 : IVec S16 32) : Prop :=
  (∀ a x, ((![v149] : Fin 1 → IVec S16 32) a x).toNat < S100000.size a)
theorem k1_idx21_inb : ∀ (v149 : IVec S16 32) (k1_hw21 : k1_chk21 v149), ∀ a x, ((![v149] : Fin 1 → IVec S16 32) a x).toNat < S100000.size a := fun v149 k1_hw21 => k1_hw21
def k1_off26 (k1_t3 : Fin k1_t3_loop.trips) (c4_i32 : BitVec 32) : Fin 1 → Nat :=
  let c0_i32_13 : BitVec 32 := 0#32
  let c1_i32_15 : BitVec 32 := 1#32
  let arg17 : BitVec 32 := Scf.iv c0_i32_13 c1_i32_15 k1_t3
  let c8_i32_34 : BitVec 32 := 8#32
  let v145 : BitVec 32 := Scalar.muli arg17 c8_i32_34
  let v146 : BitVec 32 := Scalar.addi v145 c4_i32
  let c16_i32_35 : BitVec 32 := 16#32
  let v147 : BitVec 32 := Scalar.muli v146 c16_i32_35
  let v151 : Index := Scalar.indexCast v147
  ![v151.toNat]

def k1_chk22 (v160 : IVec S16 32) : Prop :=
  (∀ a x, ((![v160] : Fin 1 → IVec S16 32) a x).toNat < S100000.size a)
theorem k1_idx22_inb : ∀ (v160 : IVec S16 32) (k1_hw22 : k1_chk22 v160), ∀ a x, ((![v160] : Fin 1 → IVec S16 32) a x).toNat < S100000.size a := fun v160 k1_hw22 => k1_hw22
def k1_off27 (k1_t3 : Fin k1_t3_loop.trips) (c5_i32 : BitVec 32) : Fin 1 → Nat :=
  let c0_i32_13 : BitVec 32 := 0#32
  let c1_i32_15 : BitVec 32 := 1#32
  let arg17 : BitVec 32 := Scf.iv c0_i32_13 c1_i32_15 k1_t3
  let c8_i32_36 : BitVec 32 := 8#32
  let v156 : BitVec 32 := Scalar.muli arg17 c8_i32_36
  let v157 : BitVec 32 := Scalar.addi v156 c5_i32
  let c16_i32_37 : BitVec 32 := 16#32
  let v158 : BitVec 32 := Scalar.muli v157 c16_i32_37
  let v162 : Index := Scalar.indexCast v158
  ![v162.toNat]

def k1_chk23 (v171 : IVec S16 32) : Prop :=
  (∀ a x, ((![v171] : Fin 1 → IVec S16 32) a x).toNat < S100000.size a)
theorem k1_idx23_inb : ∀ (v171 : IVec S16 32) (k1_hw23 : k1_chk23 v171), ∀ a x, ((![v171] : Fin 1 → IVec S16 32) a x).toNat < S100000.size a := fun v171 k1_hw23 => k1_hw23
def k1_off28 (k1_t3 : Fin k1_t3_loop.trips) (c6_i32 : BitVec 32) : Fin 1 → Nat :=
  let c0_i32_13 : BitVec 32 := 0#32
  let c1_i32_15 : BitVec 32 := 1#32
  let arg17 : BitVec 32 := Scf.iv c0_i32_13 c1_i32_15 k1_t3
  let c8_i32_38 : BitVec 32 := 8#32
  let v167 : BitVec 32 := Scalar.muli arg17 c8_i32_38
  let v168 : BitVec 32 := Scalar.addi v167 c6_i32
  let c16_i32_39 : BitVec 32 := 16#32
  let v169 : BitVec 32 := Scalar.muli v168 c16_i32_39
  let v173 : Index := Scalar.indexCast v169
  ![v173.toNat]

def k1_chk24 (v182 : IVec S16 32) : Prop :=
  (∀ a x, ((![v182] : Fin 1 → IVec S16 32) a x).toNat < S100000.size a)
theorem k1_idx24_inb : ∀ (v182 : IVec S16 32) (k1_hw24 : k1_chk24 v182), ∀ a x, ((![v182] : Fin 1 → IVec S16 32) a x).toNat < S100000.size a := fun v182 k1_hw24 => k1_hw24
def k1_off29 (k1_t3 : Fin k1_t3_loop.trips) : Fin 1 → Nat :=
  let c0_i32_13 : BitVec 32 := 0#32
  let c1_i32_15 : BitVec 32 := 1#32
  let arg17 : BitVec 32 := Scf.iv c0_i32_13 c1_i32_15 k1_t3
  let c8_i32_40 : BitVec 32 := 8#32
  let v178 : BitVec 32 := Scalar.muli arg17 c8_i32_40
  let c7_i32 : BitVec 32 := 7#32
  let v179 : BitVec 32 := Scalar.addi v178 c7_i32
  let c16_i32_41 : BitVec 32 := 16#32
  let v180 : BitVec 32 := Scalar.muli v179 c16_i32_41
  let v184 : Index := Scalar.indexCast v180
  ![v184.toNat]

def k1_chk25 (v68 : IVec S16 32) : Prop :=
  (∀ a x, ((![v68] : Fin 1 → IVec S16 32) a x).toNat < S100000.size a)
theorem k1_idx25_inb : ∀ (v68 : IVec S16 32) (k1_hw25 : k1_chk25 v68), ∀ a x, ((![v68] : Fin 1 → IVec S16 32) a x).toNat < S100000.size a := fun v68 k1_hw25 => k1_hw25

def k1_chk26 (v75 : IVec S16 32) : Prop :=
  (∀ a x, ((![v75] : Fin 1 → IVec S16 32) a x).toNat < S100000.size a)
theorem k1_idx26_inb : ∀ (v75 : IVec S16 32) (k1_hw26 : k1_chk26 v75), ∀ a x, ((![v75] : Fin 1 → IVec S16 32) a x).toNat < S100000.size a := fun v75 k1_hw26 => k1_hw26

def k1_chk27 (v81 : IVec S16 32) : Prop :=
  (∀ a x, ((![v81] : Fin 1 → IVec S16 32) a x).toNat < S100000.size a)
theorem k1_idx27_inb : ∀ (v81 : IVec S16 32) (k1_hw27 : k1_chk27 v81), ∀ a x, ((![v81] : Fin 1 → IVec S16 32) a x).toNat < S100000.size a := fun v81 k1_hw27 => k1_hw27
@[reducible] def k1_t4_loop : Scf.Loop 32 :=
  let c1_i32_20 : BitVec 32 := 1#32
  let c48_i32 : BitVec 32 := 48#32
  let v87 : BitVec 32 := Scalar.addi c1_i32_20 c48_i32
  let c1_i32_21 : BitVec 32 := 1#32
  ⟨c1_i32_20, v87, c1_i32_21⟩
def k1_off30 (k1_t4 : Fin k1_t4_loop.trips) : Fin 1 → Nat :=
  let c1_i32_20 : BitVec 32 := 1#32
  let c1_i32_21 : BitVec 32 := 1#32
  let arg17 : BitVec 32 := Scf.iv c1_i32_20 c1_i32_21 k1_t4
  let c8_i32_23 : BitVec 32 := 8#32
  let v101 : BitVec 32 := Scalar.muli arg17 c8_i32_23
  let c0_i32_24 : BitVec 32 := 0#32
  let v102 : BitVec 32 := Scalar.addi v101 c0_i32_24
  let c16_i32_25 : BitVec 32 := 16#32
  let v103 : BitVec 32 := Scalar.muli v102 c16_i32_25
  let v104 : Index := Scalar.indexCast v103
  ![v104.toNat]

def k1_chk28 (v105 : IVec S16 32) : Prop :=
  (∀ a x, ((![v105] : Fin 1 → IVec S16 32) a x).toNat < S100000.size a)
theorem k1_idx28_inb : ∀ (v105 : IVec S16 32) (k1_hw28 : k1_chk28 v105), ∀ a x, ((![v105] : Fin 1 → IVec S16 32) a x).toNat < S100000.size a := fun v105 k1_hw28 => k1_hw28
def k1_off31 (k1_t4 : Fin k1_t4_loop.trips) (c0_i32_24 : BitVec 32) : Fin 1 → Nat :=
  let c1_i32_20 : BitVec 32 := 1#32
  let c1_i32_21 : BitVec 32 := 1#32
  let arg17 : BitVec 32 := Scf.iv c1_i32_20 c1_i32_21 k1_t4
  let c8_i32_23 : BitVec 32 := 8#32
  let v101 : BitVec 32 := Scalar.muli arg17 c8_i32_23
  let v102 : BitVec 32 := Scalar.addi v101 c0_i32_24
  let c16_i32_25 : BitVec 32 := 16#32
  let v103 : BitVec 32 := Scalar.muli v102 c16_i32_25
  let v107 : Index := Scalar.indexCast v103
  ![v107.toNat]

def k1_chk29 (v116 : IVec S16 32) : Prop :=
  (∀ a x, ((![v116] : Fin 1 → IVec S16 32) a x).toNat < S100000.size a)
theorem k1_idx29_inb : ∀ (v116 : IVec S16 32) (k1_hw29 : k1_chk29 v116), ∀ a x, ((![v116] : Fin 1 → IVec S16 32) a x).toNat < S100000.size a := fun v116 k1_hw29 => k1_hw29
def k1_off32 (k1_t4 : Fin k1_t4_loop.trips) (c1_i32_27 : BitVec 32) : Fin 1 → Nat :=
  let c1_i32_20 : BitVec 32 := 1#32
  let c1_i32_21 : BitVec 32 := 1#32
  let arg17 : BitVec 32 := Scf.iv c1_i32_20 c1_i32_21 k1_t4
  let c8_i32_26 : BitVec 32 := 8#32
  let v112 : BitVec 32 := Scalar.muli arg17 c8_i32_26
  let v113 : BitVec 32 := Scalar.addi v112 c1_i32_27
  let c16_i32_28 : BitVec 32 := 16#32
  let v114 : BitVec 32 := Scalar.muli v113 c16_i32_28
  let v118 : Index := Scalar.indexCast v114
  ![v118.toNat]

def k1_chk30 (v127 : IVec S16 32) : Prop :=
  (∀ a x, ((![v127] : Fin 1 → IVec S16 32) a x).toNat < S100000.size a)
theorem k1_idx30_inb : ∀ (v127 : IVec S16 32) (k1_hw30 : k1_chk30 v127), ∀ a x, ((![v127] : Fin 1 → IVec S16 32) a x).toNat < S100000.size a := fun v127 k1_hw30 => k1_hw30
def k1_off33 (k1_t4 : Fin k1_t4_loop.trips) (c2_i32_30 : BitVec 32) : Fin 1 → Nat :=
  let c1_i32_20 : BitVec 32 := 1#32
  let c1_i32_21 : BitVec 32 := 1#32
  let arg17 : BitVec 32 := Scf.iv c1_i32_20 c1_i32_21 k1_t4
  let c8_i32_29 : BitVec 32 := 8#32
  let v123 : BitVec 32 := Scalar.muli arg17 c8_i32_29
  let v124 : BitVec 32 := Scalar.addi v123 c2_i32_30
  let c16_i32_31 : BitVec 32 := 16#32
  let v125 : BitVec 32 := Scalar.muli v124 c16_i32_31
  let v129 : Index := Scalar.indexCast v125
  ![v129.toNat]

def k1_chk31 (v138 : IVec S16 32) : Prop :=
  (∀ a x, ((![v138] : Fin 1 → IVec S16 32) a x).toNat < S100000.size a)
theorem k1_idx31_inb : ∀ (v138 : IVec S16 32) (k1_hw31 : k1_chk31 v138), ∀ a x, ((![v138] : Fin 1 → IVec S16 32) a x).toNat < S100000.size a := fun v138 k1_hw31 => k1_hw31
def k1_off34 (k1_t4 : Fin k1_t4_loop.trips) (c3_i32 : BitVec 32) : Fin 1 → Nat :=
  let c1_i32_20 : BitVec 32 := 1#32
  let c1_i32_21 : BitVec 32 := 1#32
  let arg17 : BitVec 32 := Scf.iv c1_i32_20 c1_i32_21 k1_t4
  let c8_i32_32 : BitVec 32 := 8#32
  let v134 : BitVec 32 := Scalar.muli arg17 c8_i32_32
  let v135 : BitVec 32 := Scalar.addi v134 c3_i32
  let c16_i32_33 : BitVec 32 := 16#32
  let v136 : BitVec 32 := Scalar.muli v135 c16_i32_33
  let v140 : Index := Scalar.indexCast v136
  ![v140.toNat]

def k1_chk32 (v149 : IVec S16 32) : Prop :=
  (∀ a x, ((![v149] : Fin 1 → IVec S16 32) a x).toNat < S100000.size a)
theorem k1_idx32_inb : ∀ (v149 : IVec S16 32) (k1_hw32 : k1_chk32 v149), ∀ a x, ((![v149] : Fin 1 → IVec S16 32) a x).toNat < S100000.size a := fun v149 k1_hw32 => k1_hw32
def k1_off35 (k1_t4 : Fin k1_t4_loop.trips) (c4_i32 : BitVec 32) : Fin 1 → Nat :=
  let c1_i32_20 : BitVec 32 := 1#32
  let c1_i32_21 : BitVec 32 := 1#32
  let arg17 : BitVec 32 := Scf.iv c1_i32_20 c1_i32_21 k1_t4
  let c8_i32_34 : BitVec 32 := 8#32
  let v145 : BitVec 32 := Scalar.muli arg17 c8_i32_34
  let v146 : BitVec 32 := Scalar.addi v145 c4_i32
  let c16_i32_35 : BitVec 32 := 16#32
  let v147 : BitVec 32 := Scalar.muli v146 c16_i32_35
  let v151 : Index := Scalar.indexCast v147
  ![v151.toNat]

def k1_chk33 (v160 : IVec S16 32) : Prop :=
  (∀ a x, ((![v160] : Fin 1 → IVec S16 32) a x).toNat < S100000.size a)
theorem k1_idx33_inb : ∀ (v160 : IVec S16 32) (k1_hw33 : k1_chk33 v160), ∀ a x, ((![v160] : Fin 1 → IVec S16 32) a x).toNat < S100000.size a := fun v160 k1_hw33 => k1_hw33
def k1_off36 (k1_t4 : Fin k1_t4_loop.trips) (c5_i32 : BitVec 32) : Fin 1 → Nat :=
  let c1_i32_20 : BitVec 32 := 1#32
  let c1_i32_21 : BitVec 32 := 1#32
  let arg17 : BitVec 32 := Scf.iv c1_i32_20 c1_i32_21 k1_t4
  let c8_i32_36 : BitVec 32 := 8#32
  let v156 : BitVec 32 := Scalar.muli arg17 c8_i32_36
  let v157 : BitVec 32 := Scalar.addi v156 c5_i32
  let c16_i32_37 : BitVec 32 := 16#32
  let v158 : BitVec 32 := Scalar.muli v157 c16_i32_37
  let v162 : Index := Scalar.indexCast v158
  ![v162.toNat]

def k1_chk34 (v171 : IVec S16 32) : Prop :=
  (∀ a x, ((![v171] : Fin 1 → IVec S16 32) a x).toNat < S100000.size a)
theorem k1_idx34_inb : ∀ (v171 : IVec S16 32) (k1_hw34 : k1_chk34 v171), ∀ a x, ((![v171] : Fin 1 → IVec S16 32) a x).toNat < S100000.size a := fun v171 k1_hw34 => k1_hw34
def k1_off37 (k1_t4 : Fin k1_t4_loop.trips) (c6_i32 : BitVec 32) : Fin 1 → Nat :=
  let c1_i32_20 : BitVec 32 := 1#32
  let c1_i32_21 : BitVec 32 := 1#32
  let arg17 : BitVec 32 := Scf.iv c1_i32_20 c1_i32_21 k1_t4
  let c8_i32_38 : BitVec 32 := 8#32
  let v167 : BitVec 32 := Scalar.muli arg17 c8_i32_38
  let v168 : BitVec 32 := Scalar.addi v167 c6_i32
  let c16_i32_39 : BitVec 32 := 16#32
  let v169 : BitVec 32 := Scalar.muli v168 c16_i32_39
  let v173 : Index := Scalar.indexCast v169
  ![v173.toNat]

def k1_chk35 (v182 : IVec S16 32) : Prop :=
  (∀ a x, ((![v182] : Fin 1 → IVec S16 32) a x).toNat < S100000.size a)
theorem k1_idx35_inb : ∀ (v182 : IVec S16 32) (k1_hw35 : k1_chk35 v182), ∀ a x, ((![v182] : Fin 1 → IVec S16 32) a x).toNat < S100000.size a := fun v182 k1_hw35 => k1_hw35
def k1_off38 (k1_t4 : Fin k1_t4_loop.trips) : Fin 1 → Nat :=
  let c1_i32_20 : BitVec 32 := 1#32
  let c1_i32_21 : BitVec 32 := 1#32
  let arg17 : BitVec 32 := Scf.iv c1_i32_20 c1_i32_21 k1_t4
  let c8_i32_40 : BitVec 32 := 8#32
  let v178 : BitVec 32 := Scalar.muli arg17 c8_i32_40
  let c7_i32 : BitVec 32 := 7#32
  let v179 : BitVec 32 := Scalar.addi v178 c7_i32
  let c16_i32_41 : BitVec 32 := 16#32
  let v180 : BitVec 32 := Scalar.muli v179 c16_i32_41
  let v184 : Index := Scalar.indexCast v180
  ![v184.toNat]
def k1_mult6 (i : grid1.Coords) : BitVec 32 :=
  let arg1 : BitVec 32 := BitVec.ofNat 32 (i 1).val
  let c2_i32 : BitVec 32 := 2#32
  let v97 : BitVec 32 := Scalar.muli arg1 c2_i32
  let arg0 : BitVec 32 := BitVec.ofNat 32 (i 0).val
  let v98 : BitVec 32 := Scalar.addi v97 arg0
  let c16_i32 : BitVec 32 := 16#32
  let v99 : BitVec 32 := Scalar.muli v98 c16_i32
  v99
def k1_off39 (i : grid1.Coords) : Fin 1 → Nat :=
  let arg1 : BitVec 32 := BitVec.ofNat 32 (i 1).val
  let c2_i32 : BitVec 32 := 2#32
  let v97 : BitVec 32 := Scalar.muli arg1 c2_i32
  let arg0 : BitVec 32 := BitVec.ofNat 32 (i 0).val
  let v98 : BitVec 32 := Scalar.addi v97 arg0
  let c16_i32 : BitVec 32 := 16#32
  let v99 : BitVec 32 := Scalar.muli v98 c16_i32
  let v100 : BitVec 32 := v99
  ![v100.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16x100000 : Shape := ⟨2, ![16, 100000]⟩
abbrev S16 : Shape := ⟨1, ![16]⟩
abbrev S16x50000 : Shape := ⟨2, ![16, 50000]⟩
abbrev S16x1 : Shape := ⟨2, ![16, 1]⟩
abbrev S_ : Shape := ⟨0, ![]⟩
abbrev S16x50000x1 : Shape := ⟨3, ![16, 50000, 1]⟩
abbrev S16x50000x2 : Shape := ⟨3, ![16, 50000, 2]⟩

abbrev nBuf : Space → Nat
  | .hbm => 30
  | .vmem => 0
  | .smem => 0
  | _ => 0

abbrev bufTy : (tb : Table) → Fin (tcTables nBuf tb) → BufTy
  | .hbm, ⟨0, _⟩ => ⟨S16x100000, .f32⟩
  | .hbm, ⟨1, _⟩ => ⟨S16, .i32⟩
  | .hbm, ⟨2, _⟩ => ⟨S16x50000, .i32⟩
  | .hbm, ⟨3, _⟩ => ⟨S16x50000, .f32⟩
  | .hbm, ⟨4, _⟩ => ⟨S16x1, .i32⟩
  | .hbm, ⟨5, _⟩ => ⟨S_, .i32⟩
  | .hbm, ⟨6, _⟩ => ⟨S16x1, .i32⟩
  | .hbm, ⟨7, _⟩ => ⟨S16x1, .i1⟩
  | .hbm, ⟨8, _⟩ => ⟨S_, .i32⟩
  | .hbm, ⟨9, _⟩ => ⟨S16x1, .i32⟩
  | .hbm, ⟨10, _⟩ => ⟨S16x1, .i32⟩
  | .hbm, ⟨11, _⟩ => ⟨S16x1, .i32⟩
  | .hbm, ⟨12, _⟩ => ⟨S_, .i32⟩
  | .hbm, ⟨13, _⟩ => ⟨S16x50000, .i32⟩
  | .hbm, ⟨14, _⟩ => ⟨S16x50000, .i1⟩
  | .hbm, ⟨15, _⟩ => ⟨S_, .i32⟩
  | .hbm, ⟨16, _⟩ => ⟨S16x50000, .i32⟩
  | .hbm, ⟨17, _⟩ => ⟨S16x50000, .i32⟩
  | .hbm, ⟨18, _⟩ => ⟨S16x50000, .i32⟩
  | .hbm, ⟨19, _⟩ => ⟨S16x50000, .i32⟩
  | .hbm, ⟨20, _⟩ => ⟨S16x50000x1, .i32⟩
  | .hbm, ⟨21, _⟩ => ⟨S16x50000x1, .i32⟩
  | .hbm, ⟨22, _⟩ => ⟨S16x50000x2, .i32⟩
  | .hbm, ⟨23, _⟩ => ⟨S16x50000, .f32⟩
  | .hbm, ⟨24, _⟩ => ⟨S16x50000, .f32⟩
  | .hbm, ⟨25, _⟩ => ⟨S16x50000, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | _, _ => ⟨S16x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_1 : Ref sig .tc := ⟨.hbm, 12, rfl⟩
abbrev main_v6 : Ref sig .tc := ⟨.hbm, 13, rfl⟩
abbrev main_v7 : Ref sig .tc := ⟨.hbm, 14, rfl⟩
abbrev main_c_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩

abbrev nD : Nat := 1
abbrev τ : Topo := Topo.v7x

variable {F : FTy → Type} [FloatOps F]
-- ==== Proof.TripI.lean ====
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.KI

open Cert.KernelIdeal Cert.KernelIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## One trip of a tile's loops -/

/-- The eight vectors a tile carries through its loops. -/
abbrev Acc (F : FTy → Type) : Type :=
  FVec F S16 .f32 × FVec F S16 .f32 × FVec F S16 .f32 × FVec F S16 .f32 × FVec F S16 .f32 × FVec F S16 .f32 × FVec F S16 .f32 × FVec F S16 .f32

/-- The processor a tile's task runs on, by the pair of SparseCore and tile. -/
abbrev tileProc (L : grid1.Coords) : Proc τ := .scVector ((L 0).castLE hcore1) ((L 1).castLE hsub1)

/-- The tile's row of predictions. -/
abbrev rowB : Memref sig .scVector .vmem S100000 .f32 := Memref.whole cc1_scratch0

abbrev InB (o : Fin 1 → ℕ) : Prop := ∀ a, o a + S16.size a ≤ S6272.size a

/-- Sixteen lanes of work: sixteen indices loaded at `oI`, the row gathered at them, sixteen targets
    loaded at `oT`, and the squares of the differences. -/
def unitP (L : grid1.Coords) (ib : Memref sig .scVector .vmem S6272 .i32) (tb : Memref sig .scVector .vmem S6272 .f32)
    (oI oT : Fin 1 → ℕ) (hI : InB oI) (hT : InB oT) :
    Prog (TpuEff nD τ sig (Elt F) Λ₀ (tileProc L)) (FVec F S16 .f32) := do
  let v : Vec F S16 .i32 ← Prog.lift (.load ib (Rect.unit (s := S6272) oI S16.size hI).toLoadRect (View.loadsAt_vmem h_S16))
  have hw : k1_chk1 v := (← Prog.lift (TpuEff.assume (k1_chk1 v) (k1_chk1.dec v))).down
  let g : Vec F S16 .f32 ← SparseCore.vectorLoadIdx rowB ![v] (k1_idx1_inb v hw) (View.loads_vmem h_S100000)
  let t : Vec F S16 .f32 ← Prog.lift (.load tb (Rect.unit (s := S6272) oT S16.size hT).toLoadRect (View.loadsAt_vmem h_S16))
  pure (mulf (subf g t) (subf g t))

/-- One trip: eight units, each added to its own vector. -/
def tripP (L : grid1.Coords) (ib : Memref sig .scVector .vmem S6272 .i32) (tb : Memref sig .scVector .vmem S6272 .f32)
    (oI oT : Fin 8 → Fin 1 → ℕ) (hI : ∀ u, InB (oI u)) (hT : ∀ u, InB (oT u)) (a : Acc F) :
    Prog (TpuEff nD τ sig (Elt F) Λ₀ (tileProc L)) (Acc F) := do
  let q0 ← unitP L ib tb (oI 0) (oT 0) (hI 0) (hT 0)
  let q1 ← unitP L ib tb (oI 1) (oT 1) (hI 1) (hT 1)
  let q2 ← unitP L ib tb (oI 2) (oT 2) (hI 2) (hT 2)
  let q3 ← unitP L ib tb (oI 3) (oT 3) (hI 3) (hT 3)
  let q4 ← unitP L ib tb (oI 4) (oT 4) (hI 4) (hT 4)
  let q5 ← unitP L ib tb (oI 5) (oT 5) (hI 5) (hT 5)
  let q6 ← unitP L ib tb (oI 6) (oT 6) (hI 6) (hT 6)
  let q7 ← unitP L ib tb (oI 7) (oT 7) (hI 7) (hT 7)
  pure (addf a.1 q0, addf a.2.1 q1, addf a.2.2.1 q2, addf a.2.2.2.1 q3, addf a.2.2.2.2.1 q4, addf a.2.2.2.2.2.1 q5,
    addf a.2.2.2.2.2.2.1 q6, addf a.2.2.2.2.2.2.2 q7)

abbrev oI1 (k : Fin k1_t1_loop.trips) : Fin 8 → Fin 1 → ℕ :=
  ![k1_off3 k, k1_off4 k 1#32, k1_off5 k 2#32, k1_off6 k 3#32, k1_off7 k 4#32, k1_off8 k 5#32, k1_off9 k 6#32, k1_off10 k 7#32]
abbrev oT1 (k : Fin k1_t1_loop.trips) : Fin 8 → Fin 1 → ℕ :=
  ![k1_off4 k 0#32, k1_off5 k 1#32, k1_off6 k 2#32, k1_off7 k 3#32, k1_off8 k 4#32, k1_off9 k 5#32, k1_off10 k 6#32, k1_off11 k]

theorem eight_cases {P : Fin 8 → Prop} (h0 : P 0) (h1 : P 1) (h2 : P 2) (h3 : P 3) (h4 : P 4) (h5 : P 5) (h6 : P 6) (h7 : P 7) : ∀ u, P u
  | 0 => h0 | 1 => h1 | 2 => h2 | 3 => h3 | 4 => h4 | 5 => h5 | 6 => h6 | 7 => h7

/-- Trip `k`'s offsets, in closed form. -/
theorem oI1_eq (k : Fin k1_t1_loop.trips) : ∀ u, oI1 k u = ![128 * k.val + 16 * u.val] :=
  eight_cases (k1_off3_eq k) (k1_off4_eq k 1) (k1_off5_eq k 1) (k1_off6_eq k 1) (k1_off7_eq k 1) (k1_off8_eq k 1) (k1_off9_eq k 1) (k1_off10_eq k 1)
theorem oT1_eq (k : Fin k1_t1_loop.trips) : ∀ u, oT1 k u = ![128 * k.val + 16 * u.val] :=
  eight_cases (k1_off4_eq k 0) (k1_off5_eq k 0) (k1_off6_eq k 0) (k1_off7_eq k 0) (k1_off8_eq k 0) (k1_off9_eq k 0) (k1_off10_eq k 0) (k1_off11_eq k)

theorem oI1_inb (k : Fin k1_t1_loop.trips) : ∀ u, InB (oI1 k u) :=
  eight_cases (k1_off3_inb k) (k1_off4_inb k 1) (k1_off5_inb k 1) (k1_off6_inb k 1) (k1_off7_inb k 1) (k1_off8_inb k 1) (k1_off9_inb k 1) (k1_off10_inb k 1)
theorem oT1_inb (k : Fin k1_t1_loop.trips) : ∀ u, InB (oT1 k u) :=
  eight_cases (k1_off4_inb k 0) (k1_off5_inb k 0) (k1_off6_inb k 0) (k1_off7_inb k 0) (k1_off8_inb k 0) (k1_off9_inb k 0) (k1_off10_inb k 0) (k1_off11_inb k)

abbrev oI2 (k : Fin k1_t2_loop.trips) : Fin 8 → Fin 1 → ℕ :=
  ![k1_off12 k, k1_off13 k 1#32, k1_off14 k 2#32, k1_off15 k 3#32, k1_off16 k 4#32, k1_off17 k 5#32, k1_off18 k 6#32, k1_off19 k 7#32]
abbrev oT2 (k : Fin k1_t2_loop.trips) : Fin 8 → Fin 1 → ℕ :=
  ![k1_off13 k 0#32, k1_off14 k 1#32, k1_off15 k 2#32, k1_off16 k 3#32, k1_off17 k 4#32, k1_off18 k 5#32, k1_off19 k 6#32, k1_off20 k]
theorem oI2_eq (k : Fin k1_t2_loop.trips) : ∀ u, oI2 k u = ![128 * k.val + 16 * u.val] :=
  eight_cases (k1_off12_eq k) (k1_off13_eq k 1) (k1_off14_eq k 1) (k1_off15_eq k 1) (k1_off16_eq k 1) (k1_off17_eq k 1) (k1_off18_eq k 1) (k1_off19_eq k 1)
theorem oT2_eq (k : Fin k1_t2_loop.trips) : ∀ u, oT2 k u = ![128 * k.val + 16 * u.val] :=
  eight_cases (k1_off13_eq k 0) (k1_off14_eq k 0) (k1_off15_eq k 0) (k1_off16_eq k 0) (k1_off17_eq k 0) (k1_off18_eq k 0) (k1_off19_eq k 0) (k1_off20_eq k)
theorem oI2_inb (k : Fin k1_t2_loop.trips) : ∀ u, InB (oI2 k u) :=
  eight_cases (k1_off12_inb k) (k1_off13_inb k 1) (k1_off14_inb k 1) (k1_off15_inb k 1) (k1_off16_inb k 1) (k1_off17_inb k 1) (k1_off18_inb k 1) (k1_off19_inb k 1)
theorem oT2_inb (k : Fin k1_t2_loop.trips) : ∀ u, InB (oT2 k u) :=
  eight_cases (k1_off13_inb k 0) (k1_off14_inb k 0) (k1_off15_inb k 0) (k1_off16_inb k 0) (k1_off17_inb k 0) (k1_off18_inb k 0) (k1_off19_inb k 0) (k1_off20_inb k)

abbrev oI3 (k : Fin k1_t3_loop.trips) : Fin 8 → Fin 1 → ℕ :=
  ![k1_off21 k, k1_off22 k 1#32, k1_off23 k 2#32, k1_off24 k 3#32, k1_off25 k 4#32, k1_off26 k 5#32, k1_off27 k 6#32, k1_off28 k 7#32]
abbrev oT3 (k : Fin k1_t3_loop.trips) : Fin 8 → Fin 1 → ℕ :=
  ![k1_off22 k 0#32, k1_off23 k 1#32, k1_off24 k 2#32, k1_off25 k 3#32, k1_off26 k 4#32, k1_off27 k 5#32, k1_off28 k 6#32, k1_off29 k]
theorem oI3_eq (k : Fin k1_t3_loop.trips) : ∀ u, oI3 k u = ![128 * k.val + 16 * u.val] :=
  eight_cases (k1_off21_eq k) (k1_off22_eq k 1) (k1_off23_eq k 1) (k1_off24_eq k 1) (k1_off25_eq k 1) (k1_off26_eq k 1) (k1_off27_eq k 1) (k1_off28_eq k 1)
theorem oT3_eq (k : Fin k1_t3_loop.trips) : ∀ u, oT3 k u = ![128 * k.val + 16 * u.val] :=
  eight_cases (k1_off22_eq k 0) (k1_off23_eq k 0) (k1_off24_eq k 0) (k1_off25_eq k 0) (k1_off26_eq k 0) (k1_off27_eq k 0) (k1_off28_eq k 0) (k1_off29_eq k)
theorem oI3_inb (k : Fin k1_t3_loop.trips) : ∀ u, InB (oI3 k u) :=
  eight_cases (k1_off21_inb k) (k1_off22_inb k 1) (k1_off23_inb k 1) (k1_off24_inb k 1) (k1_off25_inb k 1) (k1_off26_inb k 1) (k1_off27_inb k 1) (k1_off28_inb k 1)
theorem oT3_inb (k : Fin k1_t3_loop.trips) : ∀ u, InB (oT3 k u) :=
  eight_cases (k1_off22_inb k 0) (k1_off23_inb k 0) (k1_off24_inb k 0) (k1_off25_inb k 0) (k1_off26_inb k 0) (k1_off27_inb k 0) (k1_off28_inb k 0) (k1_off29_inb k)

abbrev oI4 (k : Fin k1_t4_loop.trips) : Fin 8 → Fin 1 → ℕ :=
  ![k1_off30 k, k1_off31 k 1#32, k1_off32 k 2#32, k1_off33 k 3#32, k1_off34 k 4#32, k1_off35 k 5#32, k1_off36 k 6#32, k1_off37 k 7#32]
abbrev oT4 (k : Fin k1_t4_loop.trips) : Fin 8 → Fin 1 → ℕ :=
  ![k1_off31 k 0#32, k1_off32 k 1#32, k1_off33 k 2#32, k1_off34 k 3#32, k1_off35 k 4#32, k1_off36 k 5#32, k1_off37 k 6#32, k1_off38 k]
theorem oI4_eq (k : Fin k1_t4_loop.trips) : ∀ u, oI4 k u = ![128 * k.val + 16 * u.val + 128] :=
  eight_cases (k1_off30_eq k) (k1_off31_eq k 1) (k1_off32_eq k 1) (k1_off33_eq k 1) (k1_off34_eq k 1) (k1_off35_eq k 1) (k1_off36_eq k 1) (k1_off37_eq k 1)
theorem oT4_eq (k : Fin k1_t4_loop.trips) : ∀ u, oT4 k u = ![128 * k.val + 16 * u.val + 128] :=
  eight_cases (k1_off31_eq k 0) (k1_off32_eq k 0) (k1_off33_eq k 0) (k1_off34_eq k 0) (k1_off35_eq k 0) (k1_off36_eq k 0) (k1_off37_eq k 0) (k1_off38_eq k)
theorem oI4_inb (k : Fin k1_t4_loop.trips) : ∀ u, InB (oI4 k u) :=
  eight_cases (k1_off30_inb k) (k1_off31_inb k 1) (k1_off32_inb k 1) (k1_off33_inb k 1) (k1_off34_inb k 1) (k1_off35_inb k 1) (k1_off36_inb k 1) (k1_off37_inb k 1)
theorem oT4_inb (k : Fin k1_t4_loop.trips) : ∀ u, InB (oT4 k u) :=
  eight_cases (k1_off31_inb k 0) (k1_off32_inb k 0) (k1_off33_inb k 0) (k1_off34_inb k 0) (k1_off35_inb k 0) (k1_off36_inb k 0) (k1_off37_inb k 0) (k1_off38_inb k)

/-! ## The tile's program, regrouped -/

/-- The three arrays the preparation leaves, and the result, as a tile names them. -/
abbrev rowsV : Memref sig .scVector .hbm S1605632 .f32 := Memref.whole main_v0_0_scv
abbrev tixV : Memref sig .scVector .hbm S802816 .i32 := Memref.whole main_v0_1_scv
abbrev thV : Memref sig .scVector .hbm S802816 .f32 := Memref.whole main_v0_2_scv
abbrev outV : Memref sig .scVector .hbm S512 .f32 := Memref.whole main_v1_scv
/-- The two pairs of staging buffers (indices, targets), and the buffer the lane sums leave by. -/
abbrev ixA : Memref sig .scVector .vmem S6272 .i32 := Memref.whole cc1_scratch1
abbrev thA : Memref sig .scVector .vmem S6272 .f32 := Memref.whole cc1_scratch2
abbrev ixB : Memref sig .scVector .vmem S6272 .i32 := Memref.whole cc1_scratch3
abbrev thB : Memref sig .scVector .vmem S6272 .f32 := Memref.whole cc1_scratch4
abbrev accB : Memref sig .scVector .vmem S16 .f32 := Memref.whole cc1_scratch5

abbrev rowSrc (L : grid1.Coords) : Memref sig .scVector .hbm S100000 .f32 :=
  rowsV.slice (Rect.unit (s := S1605632) (k1_off1 L) S100000.size (k1_off1_inb L)) (fun _ => rfl)
/-- Chunk `r` of the tile's indices and of its targets. -/
abbrev ixSrc (L : grid1.Coords) (r : Fin 4) : Memref sig .scVector .hbm S6272 .i32 :=
  tixV.slice (Rect.unit (s := S802816) (k1_off2 L (k1_off2_at r)) S6272.size (k1_off2_inb L r)) (fun _ => rfl)
abbrev thSrc (L : grid1.Coords) (r : Fin 4) : Memref sig .scVector .hbm S6272 .f32 :=
  thV.slice (Rect.unit (s := S802816) (k1_off2 L (k1_off2_at r)) S6272.size (k1_off2_inb L r)) (fun _ => rfl)
abbrev outDst (L : grid1.Coords) : Memref sig .scVector .hbm S16 .f32 :=
  outV.slice (Rect.unit (s := S512) (k1_off39 L) S16.size (k1_off39_inb L)) (fun _ => rfl)

abbrev TP (F : FTy → Type) (L : grid1.Coords) : Type → Type 1 := Prog (TpuEff nD τ sig (Elt F) Λ₀ (tileProc L))

/-- A local copy into a whole buffer of the tile, started; and its wait. -/
abbrev startP {s : Shape} {e : EltTy} (L : grid1.Coords) (src : Memref sig .scVector .hbm s e) (hs : src.view.WordExact)
    (dst : Memref sig .scVector .vmem s e) (hd : dst.IsWhole) (sem : DmaSem sig) : TP F L PUnit :=
  Prog.lift (.enqueueDma src (.here dst) (.dma sem) hs hd.wordExact ⟨Or.inl rfl, trivial⟩)
abbrev waitP {s : Shape} {e : EltTy} (L : grid1.Coords) (src : Memref sig .scVector .hbm s e) (hs : src.view.WordExact)
    (dst : Memref sig .scVector .vmem s e) (hd : dst.IsWhole) (sem : DmaSem sig) : TP F L PUnit :=
  Prog.lift (.waitDma2 sem src dst hs hd.wordExact)

/-- Chunk `r` started into the first pair of staging buffers, or the second; and waited for. -/
abbrev startA (L : grid1.Coords) (r : Fin 4) : TP F L PUnit := do
  startP L (ixSrc L r) (View.wordExact_bits rfl) ixA (Memref.isWhole_whole _) cc1_scratch7.sem
  startP L (thSrc L r) (View.wordExact_bits rfl) thA (Memref.isWhole_whole _) cc1_scratch8.sem
abbrev startB (L : grid1.Coords) (r : Fin 4) : TP F L PUnit := do
  startP L (ixSrc L r) (View.wordExact_bits rfl) ixB (Memref.isWhole_whole _) cc1_scratch9.sem
  startP L (thSrc L r) (View.wordExact_bits rfl) thB (Memref.isWhole_whole _) cc1_scratch10.sem
abbrev awaitA (L : grid1.Coords) (r : Fin 4) : TP F L PUnit := do
  waitP L (ixSrc L r) (View.wordExact_bits rfl) ixA (Memref.isWhole_whole _) cc1_scratch7.sem
  waitP L (thSrc L r) (View.wordExact_bits rfl) thA (Memref.isWhole_whole _) cc1_scratch8.sem
abbrev awaitB (L : grid1.Coords) (r : Fin 4) : TP F L PUnit := do
  waitP L (ixSrc L r) (View.wordExact_bits rfl) ixB (Memref.isWhole_whole _) cc1_scratch9.sem
  waitP L (thSrc L r) (View.wordExact_bits rfl) thB (Memref.isWhole_whole _) cc1_scratch10.sem

/-- The mask of the upper eight lanes, and the vector of zeros. -/
def maskV : FVec F S16 .f32 := k1_pay53 (F := F) (iota .scVector S16 32 [0] iota_S16_d0_w32_scVector)
def zeroV : FVec F S16 .f32 := k1_pay42 (F := F)
def zeroAcc : Acc F := (zeroV, zeroV, zeroV, zeroV, zeroV, zeroV, zeroV, zeroV)
/-- The three units of the last chunk that its loop does not reach, added: the first under the mask. -/
def tailAcc (a : Acc F) (q5 q6 q7 : FVec F S16 .f32) : Acc F :=
  (a.1, a.2.1, a.2.2.1, a.2.2.2.1, a.2.2.2.2.1, addf a.2.2.2.2.2.1 (mulf q5 maskV), addf a.2.2.2.2.2.2.1 q6, addf a.2.2.2.2.2.2.2 q7)
/-- The eight vectors added up. -/
def sumAcc (a : Acc F) : FVec F S16 .f32 :=
  addf (addf (addf (addf (addf (addf (addf a.1 a.2.1) a.2.2.1) a.2.2.2.1) a.2.2.2.2.1) a.2.2.2.2.2.1) a.2.2.2.2.2.2.1) a.2.2.2.2.2.2.2

def tileP (L : grid1.Coords) : TP F L PUnit := do
  startP L (rowSrc L) (View.wordExact_bits rfl) rowB (Memref.isWhole_whole _) cc1_scratch6.sem
  startA L 0
  startB L 1
  waitP L (rowSrc L) (View.wordExact_bits rfl) rowB (Memref.isWhole_whole _) cc1_scratch6.sem
  awaitA L 0
  let a ← Scf.Loop.for k1_t1_loop k1_t1_ok zeroAcc (fun k a => tripP L ixA thA (oI1 k) (oT1 k) (oI1_inb k) (oT1_inb k) a)
  startA L 2
  awaitB L 1
  let a ← Scf.Loop.for k1_t2_loop k1_t2_ok a (fun k a => tripP L ixB thB (oI2 k) (oT2 k) (oI2_inb k) (oT2_inb k) a)
  startB L 3
  awaitA L 2
  let a ← Scf.Loop.for k1_t3_loop k1_t3_ok a (fun k a => tripP L ixA thA (oI3 k) (oT3 k) (oI3_inb k) (oT3_inb k) a)
  awaitB L 3
  let q5 ← unitP L ixB thB ![80] ![80] inb_S6272_S16_80 inb_S6272_S16_80
  let q6 ← unitP L ixB thB ![96] ![96] inb_S6272_S16_96 inb_S6272_S16_96
  let q7 ← unitP L ixB thB ![112] ![112] inb_S6272_S16_112 inb_S6272_S16_112
  let a ← Scf.Loop.for k1_t4_loop k1_t4_ok (tailAcc a q5 q6 q7)
    (fun k a => tripP L ixB thB (oI4 k) (oT4 k) (oI4_inb k) (oT4_inb k) a)
  let _ : Vec F S16 .f32 ← Prog.lift (.load accB (Rect.unit (s := S16) ![0] S16.size inb_S16_S16_0).toLoadRect (View.loadsAt_vmem h_S16))
  Prog.lift (.store accB (Rect.unit (s := S16) ![0] S16.size inb_S16_S16_0) (sumAcc a) Finset.univ (View.stores_vmem_bits_univ h_S16 rfl) (.inl rfl))
  Prog.lift (.enqueueDma accB (.here (outDst L)) (.dma cc1_scoped0.sem) (Memref.isWhole_whole _).wordExact (View.wordExact_bits rfl) ⟨Or.inl rfl, trivial⟩)
  Prog.lift (.waitDma2 cc1_scoped0.sem accB (outDst L) (Memref.isWhole_whole _).wordExact (View.wordExact_bits rfl))
  pure ⟨⟩

/-- The kernel's body, called on its buffers. -/
abbrev tileBody (L : grid1.Coords) : TP F L PUnit :=
  cc1__body L (Memref.whole main_v0_0_scv) (Memref.isWhole_whole _) (Memref.whole main_v0_1_scv) (Memref.isWhole_whole _) (Memref.whole main_v0_2_scv)
    (Memref.isWhole_whole _) (Memref.whole main_v1_scv) (Memref.isWhole_whole _) (Memref.whole cc1_scratch0) (Memref.isWhole_whole _)
    (Memref.whole cc1_scratch1) (Memref.isWhole_whole _) (Memref.whole cc1_scratch2) (Memref.isWhole_whole _) (Memref.whole cc1_scratch3)
    (Memref.isWhole_whole _) (Memref.whole cc1_scratch4) (Memref.isWhole_whole _) (Memref.whole cc1_scratch5) (Memref.isWhole_whole _)
    cc1_scratch6 cc1_scratch7 cc1_scratch8 cc1_scratch9 cc1_scratch10 cc1_scoped0

set_option maxRecDepth 100000 in
set_option maxHeartbeats 4000000 in
/-- The printed program's first part: the first copies, by unfolding. -/
theorem part9_eq (L : grid1.Coords) : k1_part9 (F := F) L (Memref.whole main_v0_0_scv) (Memref.isWhole_whole _) (Memref.whole main_v0_1_scv) (Memref.isWhole_whole _) (Memref.whole main_v0_2_scv)
    (Memref.isWhole_whole _) (Memref.whole main_v1_scv) (Memref.isWhole_whole _) (Memref.whole cc1_scratch0) (Memref.isWhole_whole _)
    (Memref.whole cc1_scratch1) (Memref.isWhole_whole _) (Memref.whole cc1_scratch2) (Memref.isWhole_whole _) (Memref.whole cc1_scratch3)
    (Memref.isWhole_whole _) (Memref.whole cc1_scratch4) (Memref.isWhole_whole _) (Memref.whole cc1_scratch5) (Memref.isWhole_whole _)
    cc1_scratch6 cc1_scratch7 cc1_scratch8 cc1_scratch9 cc1_scratch10 cc1_scoped0 = (do
  startP L (rowSrc L) (View.wordExact_bits rfl) rowB (Memref.isWhole_whole _) cc1_scratch6.sem
  startA L 0
  startB L 1
  waitP L (rowSrc L) (View.wordExact_bits rfl) rowB (Memref.isWhole_whole _) cc1_scratch6.sem
  awaitA L 0
  pure ⟨BitVec.ofNat 32 (L 0).val, BitVec.ofNat 32 (L 1).val, iota .scVector S16 32 [0] iota_S16_d0_w32_scVector,
    Scalar.addi (Scalar.muli (BitVec.ofNat 32 (L 1).val) 50176#32) (Scalar.muli (BitVec.ofNat 32 (L 0).val) 25000#32),
    zeroV, zeroV, zeroV, zeroV, zeroV, zeroV, zeroV, zeroV, 0#32⟩) := rfl

set_option maxRecDepth 100000 in
set_option maxHeartbeats 4000000 in
/-- Its second part: the first three loops and the first gather of the last chunk. -/
theorem part10_eq (L : grid1.Coords) (v0 : IVec S16 32) (v7 : BitVec 32) (c : BitVec 32) (a : Acc F) : k1_part10 (F := F) L (Memref.whole main_v0_0_scv) (Memref.isWhole_whole _) (Memref.whole main_v0_1_scv) (Memref.isWhole_whole _) (Memref.whole main_v0_2_scv)
    (Memref.isWhole_whole _) (Memref.whole main_v1_scv) (Memref.isWhole_whole _) (Memref.whole cc1_scratch0) (Memref.isWhole_whole _)
    (Memref.whole cc1_scratch1) (Memref.isWhole_whole _) (Memref.whole cc1_scratch2) (Memref.isWhole_whole _) (Memref.whole cc1_scratch3)
    (Memref.isWhole_whole _) (Memref.whole cc1_scratch4) (Memref.isWhole_whole _) (Memref.whole cc1_scratch5) (Memref.isWhole_whole _)
    cc1_scratch6 cc1_scratch7 cc1_scratch8 cc1_scratch9 cc1_scratch10 cc1_scoped0
    v0 v7 a.1 a.2.1 a.2.2.1 a.2.2.2.1 a.2.2.2.2.1 a.2.2.2.2.2.1 a.2.2.2.2.2.2.1 a.2.2.2.2.2.2.2 c = (do
  let a ← Scf.Loop.for k1_t1_loop k1_t1_ok a (fun k a => tripP L ixA thA (oI1 k) (oT1 k) (oI1_inb k) (oT1_inb k) a)
  startA L 2
  awaitB L 1
  let a ← Scf.Loop.for k1_t2_loop k1_t2_ok a (fun k a => tripP L ixB thB (oI2 k) (oT2 k) (oI2_inb k) (oT2_inb k) a)
  startB L 3
  awaitA L 2
  let a ← Scf.Loop.for k1_t3_loop k1_t3_ok a (fun k a => tripP L ixA thA (oI3 k) (oT3 k) (oI3_inb k) (oT3_inb k) a)
  awaitB L 3
  let v : Vec F S16 .i32 ← Prog.lift (.load ixB (Rect.unit (s := S6272) ![80] S16.size inb_S6272_S16_80).toLoadRect (View.loadsAt_vmem h_S16))
  have hw : k1_chk1 v := (← Prog.lift (TpuEff.assume (k1_chk1 v) (k1_chk1.dec v))).down
  let g : Vec F S16 .f32 ← SparseCore.vectorLoadIdx rowB ![v] (k1_idx1_inb v hw) (View.loads_vmem h_S100000)
  pure ⟨a.1, a.2.1, a.2.2.1, a.2.2.2.1, a.2.2.2.2.1, a.2.2.2.2.2.1, a.2.2.2.2.2.2.1, a.2.2.2.2.2.2.2, k1_pay53 v0, g⟩) := rfl

/-- The rest of the body, after its two parts. -/
def restP (L : grid1.Coords) (a : Acc F) (m g : FVec F S16 .f32) : TP F L PUnit := do
  let t : Vec F S16 .f32 ← Prog.lift (.load thB (Rect.unit (s := S6272) ![80] S16.size inb_S6272_S16_80).toLoadRect (View.loadsAt_vmem h_S16))
  let q6 ← unitP L ixB thB ![96] ![96] inb_S6272_S16_96 inb_S6272_S16_96
  let q7 ← unitP L ixB thB ![112] ![112] inb_S6272_S16_112 inb_S6272_S16_112
  let a ← Scf.Loop.for k1_t4_loop k1_t4_ok (a.1, a.2.1, a.2.2.1, a.2.2.2.1, a.2.2.2.2.1,
    addf a.2.2.2.2.2.1 (mulf (mulf (subf g t) (subf g t)) m), addf a.2.2.2.2.2.2.1 q6, addf a.2.2.2.2.2.2.2 q7)
     (fun k a => tripP L ixB thB (oI4 k) (oT4 k) (oI4_inb k) (oT4_inb k) a)
  let _ : Vec F S16 .f32 ← Prog.lift (.load accB (Rect.unit (s := S16) ![0] S16.size inb_S16_S16_0).toLoadRect (View.loadsAt_vmem h_S16))
  Prog.lift (.store accB (Rect.unit (s := S16) ![0] S16.size inb_S16_S16_0) (sumAcc a) Finset.univ (View.stores_vmem_bits_univ h_S16 rfl) (.inl rfl))
  Prog.lift (.enqueueDma accB (.here (outDst L)) (.dma cc1_scoped0.sem) (Memref.isWhole_whole _).wordExact (View.wordExact_bits rfl) ⟨Or.inl rfl, trivial⟩)
  Prog.lift (.waitDma2 cc1_scoped0.sem accB (outDst L) (Memref.isWhole_whole _).wordExact (View.wordExact_bits rfl))
  pure ⟨⟩

set_option maxRecDepth 100000 in
set_option maxHeartbeats 4000000 in
theorem body_split (L : grid1.Coords) : tileBody (F := F) L = (do
  let x ← k1_part9 (F := F) L (Memref.whole main_v0_0_scv) (Memref.isWhole_whole _) (Memref.whole main_v0_1_scv) (Memref.isWhole_whole _) (Memref.whole main_v0_2_scv)
    (Memref.isWhole_whole _) (Memref.whole main_v1_scv) (Memref.isWhole_whole _) (Memref.whole cc1_scratch0) (Memref.isWhole_whole _)
    (Memref.whole cc1_scratch1) (Memref.isWhole_whole _) (Memref.whole cc1_scratch2) (Memref.isWhole_whole _) (Memref.whole cc1_scratch3)
    (Memref.isWhole_whole _) (Memref.whole cc1_scratch4) (Memref.isWhole_whole _) (Memref.whole cc1_scratch5) (Memref.isWhole_whole _)
    cc1_scratch6 cc1_scratch7 cc1_scratch8 cc1_scratch9 cc1_scratch10 cc1_scoped0
  let ⟨arg0, arg1, v0, v7, v22, v23, v24, v25, v26, v27, v28, v29, c0_i32_7⟩ := x
  let ⟨v59_0, v59_1, v59_2, v59_3, v59_4, v59_5, v59_6, v59_7, v67, v69⟩ ← k1_part10 L (Memref.whole main_v0_0_scv) (Memref.isWhole_whole _) (Memref.whole main_v0_1_scv) (Memref.isWhole_whole _) (Memref.whole main_v0_2_scv)
    (Memref.isWhole_whole _) (Memref.whole main_v1_scv) (Memref.isWhole_whole _) (Memref.whole cc1_scratch0) (Memref.isWhole_whole _)
    (Memref.whole cc1_scratch1) (Memref.isWhole_whole _) (Memref.whole cc1_scratch2) (Memref.isWhole_whole _) (Memref.whole cc1_scratch3)
    (Memref.isWhole_whole _) (Memref.whole cc1_scratch4) (Memref.isWhole_whole _) (Memref.whole cc1_scratch5) (Memref.isWhole_whole _)
    cc1_scratch6 cc1_scratch7 cc1_scratch8 cc1_scratch9 cc1_scratch10 cc1_scoped0 v0 v7 v22 v23 v24 v25 v26 v27 v28 v29 c0_i32_7
  restP L (v59_0, v59_1, v59_2, v59_3, v59_4, v59_5, v59_6, v59_7) v67 v69) :=
  rfl

set_option maxRecDepth 100000 in
set_option maxHeartbeats 4000000 in
/-- The body is the regrouped program. -/
theorem tileBody_eq (L : grid1.Coords) : tileBody (F := F) L = tileP L := by
  rw [body_split, part9_eq]
  have h := part10_eq (F := F) L (iota .scVector S16 32 [0] iota_S16_d0_w32_scVector)
    (Scalar.addi (Scalar.muli (BitVec.ofNat 32 (L 1).val) 50176#32) (Scalar.muli (BitVec.ofNat 32 (L 0).val) 25000#32)) 0#32 zeroAcc
  simp only [zeroAcc] at h
  simp only [bind_assoc, pure_bind, h]
  rfl

end Cert.Proof.KI
-- ==== Proof.LoopI.lean ====
module

public import proofs.«01_k».proof.Proof.TripI

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

/-! ## What a tile computes, as a function of its row, its indices and its targets -/

section Values

variable (ROW : ℕ → F .f32) (TX : ℕ → BitVec 32) (TH : ℕ → F .f32)

/-- Sixteen squared differences, of the positions from `n`. -/
def unitV (n : ℕ) : FVec F S16 .f32 :=
  mulf (subf (fun x => ROW (TX (n + (x 0).val)).toNat) (fun x => TH (n + (x 0).val)))
    (subf (fun x => ROW (TX (n + (x 0).val)).toNat) (fun x => TH (n + (x 0).val)))

/-- A trip at position `n`: 128 squared differences, sixteen to each vector. -/
def tripV (n : ℕ) (a : Acc F) : Acc F :=
  (addf a.1 (unitV ROW TX TH (n + 16 * 0)), addf a.2.1 (unitV ROW TX TH (n + 16 * 1)), addf a.2.2.1 (unitV ROW TX TH (n + 16 * 2)),
    addf a.2.2.2.1 (unitV ROW TX TH (n + 16 * 3)), addf a.2.2.2.2.1 (unitV ROW TX TH (n + 16 * 4)),
    addf a.2.2.2.2.2.1 (unitV ROW TX TH (n + 16 * 5)), addf a.2.2.2.2.2.2.1 (unitV ROW TX TH (n + 16 * 6)),
    addf a.2.2.2.2.2.2.2 (unitV ROW TX TH (n + 16 * 7)))

/-- `k` trips from position `n`. -/
def loopV (n : ℕ) : ℕ → Acc F → Acc F
  | 0, a => a
  | k + 1, a => tripV ROW TX TH (n + 128 * k) (loopV n k a)

/-- The vectors after the first three chunks. -/
def chunksV : Acc F := loopV ROW TX TH 12544 49 (loopV ROW TX TH 6272 49 (loopV ROW TX TH 0 49 zeroAcc))

/-- The sixteen lane sums a tile leaves. -/
def tileV : FVec F S16 .f32 :=
  sumAcc (loopV ROW TX TH 18856 48
    (tailAcc (chunksV ROW TX TH) (unitV ROW TX TH 18808) (unitV ROW TX TH 18824) (unitV ROW TX TH 18840)))

end Values

/-! ## The resource algebra -/

abbrev UH : Type := URounds (GSem nD τ sig) ℕ
abbrev UR₀ : Type := URounds (GSem nD τ sig) Unit
abbrev UU : Type := UH × (UR₀ × Counters)

local notation "𝕄" => MT nD τ sig (HIx 1) (Elt F) ℕ UU ℕ

abbrev 𝒱₀ : Variants := Variants.none

/-- Tile `L`'s thread. -/
abbrev thr (d : Dev nD) (L : grid1.Coords) : Thread nD τ := V d ((L 0).castLE hcore1) ((L 1).castLE hsub1)

/-! ## The loops -/

section Loops

variable (D₀ : Defs nD τ sig (Elt F) Λ₀) (d : Dev nD) (L : grid1.Coords)
variable (ROW : ℕ → F .f32) (TX : ℕ → BitVec 32) (TH : ℕ → F .f32)

/-- The row buffer holds the row. -/
abbrev rowHeld : sProp 𝕄 :=
  ((rowB : Memref sig .scVector .vmem S100000 .f32).view.loc (thr d L)) ↦[Finset.univ]{fullShare} (fun i : S100000.Idx => ROW (i 0).val)

/-- A pair of staging buffers holds the indices and the targets from position `n`. -/
def chunkHeld (ib : Memref sig .scVector .vmem S6272 .i32) (tb : Memref sig .scVector .vmem S6272 .f32) (n : ℕ) : sProp 𝕄 :=
  iprop(∃ (fi : Buf (Elt F) (ib.view.loc (thr d L))) (ft : Buf (Elt F) (tb.view.loc (thr d L))),
    ⌜(∀ j : S6272.Idx, ib.view.read (Elt F) fi j = TX (n + (j 0).val)) ∧ (∀ j : S6272.Idx, tb.view.read (Elt F) ft j = TH (n + (j 0).val))⌝ ∗
    (ib.view.loc (thr d L) ↦[Finset.univ]{fullShare} fi) ∗ (tb.view.loc (thr d L) ↦[Finset.univ]{fullShare} ft))

/-- A unit at the head of a program, its four operations in a row. -/
theorem unitP_bind {α : Type} (ib : Memref sig .scVector .vmem S6272 .i32) (tb : Memref sig .scVector .vmem S6272 .f32)
    (oI oT : Fin 1 → ℕ) (hI : InB oI) (hT : InB oT) (k : FVec F S16 .f32 → TP F L α) :
    (unitP L ib tb oI oT hI hT >>= k : TP F L α)
      = .op (.load ib (Rect.unit (s := S6272) oI S16.size hI).toLoadRect (View.loadsAt_vmem h_S16)) fun v : Vec F S16 .i32 =>
          .op (.assume (k1_chk1 v) (k1_chk1.dec v)) fun hw =>
            SparseCore.vectorLoadIdx rowB ![v] (k1_idx1_inb v hw.down) (View.loads_vmem h_S100000) >>= fun g : Vec F S16 .f32 =>
              .op (.load tb (Rect.unit (s := S6272) oT S16.size hT).toLoadRect (View.loadsAt_vmem h_S16)) fun t : Vec F S16 .f32 =>
                k (mulf (subf g t) (subf g t)) := rfl

/-- A unit: from the row and the chunk, the sixteen squares. -/
theorem unit_wp {α : Type} (ib : Memref sig .scVector .vmem S6272 .i32) (tb : Memref sig .scVector .vmem S6272 .f32) (n o : ℕ)
    (oI oT : Fin 1 → ℕ) (hI : InB oI) (hT : InB oT) (eI : oI = ![o]) (eT : oT = ![o]) (hTX : ∀ j : Fin 16, (TX (n + o + j.val)).toNat < 100000)
    (k : FVec F S16 .f32 → TP F L α) (Q : α → sProp 𝕄) :
    iprop(rowHeld d L ROW ∗ chunkHeld d L TX TH ib tb n) ⊢
      iprop((iprop(rowHeld d L ROW ∗ chunkHeld d L TX TH ib tb n) -∗ wp frame (wpE D₀ 𝒱₀ (thr d L) none) Set.univ (k (unitV ROW TX TH (n + o))) Q)
        -∗ wp frame (wpE D₀ 𝒱₀ (thr d L) none) Set.univ (unitP L ib tb oI oT hI hT >>= k) Q) := by
  subst eI; subst eT
  rw [unitP_bind]
  unfold chunkHeld
  iintro ⟨Hr, ⟨%fi, %ft, ⟨%hfi, %hft⟩, Hi, Ht⟩⟩ Hk
  have hidx : ib.view.readAt (Elt F) (Rect.unit (s := S6272) ![o] S16.size hI).toLoadRect fi = fun x => TX (n + o + (x 0).val) := by
    funext x
    rw [View.readAt_apply, hfi]
    congr 1
    simp [LoadRect.idx_apply, Rect.unit, Rect.toLoadRect]
    omega
  have hth : tb.view.readAt (Elt F) (Rect.unit (s := S6272) ![o] S16.size hT).toLoadRect ft = fun x => TH (n + o + (x 0).val) := by
    funext x
    rw [View.readAt_apply, hft]
    congr 1
    simp [LoadRect.idx_apply, Rect.unit, Rect.toLoadRect]
    omega
  iapply (wp_load 𝒱₀ (thr d L) none Set.univ (m := ib) (S := Finset.univ) (Finset.subset_univ _)) $$ Hi; iintro Hi
  have hchk : k1_chk1 (ib.view.readAt (Elt F) (Rect.unit (s := S6272) ![o] S16.size hI).toLoadRect fi) := by
    rw [hidx]
    intro a x
    have ha : a = 0 := Subsingleton.elim _ _
    subst ha
    exact hTX (x 0)
  rw [wp_assume_of _ _ _ _ hchk]
  iapply (SparseCore.wp_vectorLoadIdx 𝒱₀ (thr d L) none Set.univ (base := rowB) (S := Finset.univ) (q := fullShare) (Finset.subset_univ _)) $$ Hr; iintro Hr
  iapply (wp_load 𝒱₀ (thr d L) none Set.univ (m := tb) (S := Finset.univ) (Finset.subset_univ _)) $$ Ht; iintro Ht
  have hval : mulf (subf (loadIdx (((rowB : Memref sig .scVector .vmem S100000 .f32).access (Rect.whole _)).read (Elt F) (fun i : S100000.Idx => ROW (i 0).val))
        ![ib.view.readAt (Elt F) (Rect.unit (s := S6272) ![o] S16.size hI).toLoadRect fi] (k1_idx1_inb _ hchk))
        (tb.view.readAt (Elt F) (Rect.unit (s := S6272) ![o] S16.size hT).toLoadRect ft))
      (subf (loadIdx (((rowB : Memref sig .scVector .vmem S100000 .f32).access (Rect.whole _)).read (Elt F) (fun i : S100000.Idx => ROW (i 0).val))
        ![ib.view.readAt (Elt F) (Rect.unit (s := S6272) ![o] S16.size hI).toLoadRect fi] (k1_idx1_inb _ hchk))
        (tb.view.readAt (Elt F) (Rect.unit (s := S6272) ![o] S16.size hT).toLoadRect ft)) = unitV ROW TX TH (n + o) := by
    have hg : loadIdx (((rowB : Memref sig .scVector .vmem S100000 .f32).access (Rect.whole _)).read (Elt F) (fun i : S100000.Idx => ROW (i 0).val))
        ![ib.view.readAt (Elt F) (Rect.unit (s := S6272) ![o] S16.size hI).toLoadRect fi] (k1_idx1_inb _ hchk)
        = fun x => ROW (TX (n + o + (x 0).val)).toNat := by
      rw [show ((rowB : Memref sig .scVector .vmem S100000 .f32).access (Rect.whole S100000)).read (Elt F) (fun i : S100000.Idx => ROW (i 0).val)
        = (fun i : S100000.Idx => ROW (i 0).val) from Memref.read_access_whole (Elt F) cc1_scratch0 _]
      funext x
      show ROW (ib.view.readAt (Elt F) (Rect.unit (s := S6272) ![o] S16.size hI).toLoadRect fi x).toNat = _
      rw [hidx]
    rw [hg, hth, unitV]; rfl
  rw [← hval]
  iapply Hk
  isplitl [Hr]; · iexact Hr
  iexists fi, ft
  isplitr; · ipureintro; exact ⟨hfi, hft⟩
  isplitl [Hi] <;> iassumption

/-- A trip: from the row and the chunk, the carried vectors one trip on. -/
theorem trip_wp (ib : Memref sig .scVector .vmem S6272 .i32) (tb : Memref sig .scVector .vmem S6272 .f32) (n o : ℕ)
    (oI oT : Fin 8 → Fin 1 → ℕ) (hI : ∀ u, InB (oI u)) (hT : ∀ u, InB (oT u)) (eI : ∀ u, oI u = ![o + 16 * u.val]) (eT : ∀ u, oT u = ![o + 16 * u.val])
    (hTX : ∀ j < 128, (TX (n + o + j)).toNat < 100000) (a : Acc F) :
    iprop(rowHeld d L ROW ∗ chunkHeld d L TX TH ib tb n) ⊢
      wp frame (wpE D₀ 𝒱₀ (thr d L) none) Set.univ (tripP L ib tb oI oT hI hT a)
        (fun a' => iprop(⌜a' = tripV ROW TX TH (n + o) a⌝ ∗ rowHeld d L ROW ∗ chunkHeld d L TX TH ib tb n)) := by
  have hu : ∀ u : Fin 8, ∀ j : Fin 16, (TX (n + (o + 16 * u.val) + j.val)).toNat < 100000 := fun u j => by
    have := hTX (16 * u.val + j.val) (by omega)
    rwa [show n + o + (16 * u.val + j.val) = n + (o + 16 * u.val) + j.val by omega] at this
  unfold tripP
  iintro H
  iapply (unit_wp D₀ d L ROW TX TH ib tb n _ _ _ _ _ (eI 0) (eT 0) (hu 0)) $$ H; iintro H
  iapply (unit_wp D₀ d L ROW TX TH ib tb n _ _ _ _ _ (eI 1) (eT 1) (hu 1)) $$ H; iintro H
  iapply (unit_wp D₀ d L ROW TX TH ib tb n _ _ _ _ _ (eI 2) (eT 2) (hu 2)) $$ H; iintro H
  iapply (unit_wp D₀ d L ROW TX TH ib tb n _ _ _ _ _ (eI 3) (eT 3) (hu 3)) $$ H; iintro H
  iapply (unit_wp D₀ d L ROW TX TH ib tb n _ _ _ _ _ (eI 4) (eT 4) (hu 4)) $$ H; iintro H
  iapply (unit_wp D₀ d L ROW TX TH ib tb n _ _ _ _ _ (eI 5) (eT 5) (hu 5)) $$ H; iintro H
  iapply (unit_wp D₀ d L ROW TX TH ib tb n _ _ _ _ _ (eI 6) (eT 6) (hu 6)) $$ H; iintro H
  iapply (unit_wp D₀ d L ROW TX TH ib tb n _ _ _ _ _ (eI 7) (eT 7) (hu 7)) $$ H; iintro H
  simp only [← Nat.add_assoc]
  rw [wp_pure]
  imodintro
  isplitr
  · ipureintro; rfl
  iexact H

/-- A loop of `K` trips at the offsets `s + 128 k`: the carried vectors `K` trips on. -/
theorem loop_wp {α : Type} (ib : Memref sig .scVector .vmem S6272 .i32) (tb : Memref sig .scVector .vmem S6272 .f32) (n s : ℕ) (lp : Scf.Loop 32) (ok : lp.OK)
    (oI oT : Fin lp.trips → Fin 8 → Fin 1 → ℕ) (hI : ∀ k u, InB (oI k u)) (hT : ∀ k u, InB (oT k u))
    (eI : ∀ k u, oI k u = ![128 * k.val + 16 * u.val + s]) (eT : ∀ k u, oT k u = ![128 * k.val + 16 * u.val + s])
    (hTX : ∀ j < 128 * lp.trips, (TX (n + s + j)).toNat < 100000) (a : Acc F) (kk : Acc F → TP F L α) (Q : α → sProp 𝕄) :
    iprop(rowHeld d L ROW ∗ chunkHeld d L TX TH ib tb n) ⊢
      iprop((iprop(rowHeld d L ROW ∗ chunkHeld d L TX TH ib tb n) -∗
          wp frame (wpE D₀ 𝒱₀ (thr d L) none) Set.univ (kk (loopV ROW TX TH (n + s) lp.trips a)) Q)
        -∗ wp frame (wpE D₀ 𝒱₀ (thr d L) none) Set.univ
          (Scf.Loop.for lp ok a (fun k a => tripP L ib tb (oI k) (oT k) (hI k) (hT k) a) >>= kk) Q) := by
  have hbody : ∀ (k : Fin lp.trips) (a' : Acc F),
      iprop(⌜a' = loopV ROW TX TH (n + s) k.val a⌝ ∗ rowHeld d L ROW ∗ chunkHeld d L TX TH ib tb n) ⊢
        wp frame (wpE D₀ 𝒱₀ (thr d L) none) Set.univ (tripP L ib tb (oI k) (oT k) (hI k) (hT k) a')
          (fun a'' => iprop(⌜a'' = loopV ROW TX TH (n + s) (k.val + 1) a⌝ ∗ rowHeld d L ROW ∗ chunkHeld d L TX TH ib tb n)) := by
    intro k a'
    iintro ⟨%ha, H⟩
    subst ha
    have h := trip_wp D₀ d L ROW TX TH ib tb n (s + 128 * k.val) (oI k) (oT k) (hI k) (hT k)
      (fun u => by rw [eI]; congr 1; omega) (fun u => by rw [eT]; congr 1; omega)
      (fun j hj => by
        have := hTX (128 * k.val + j) (by have := k.isLt; omega)
        rwa [show n + s + (128 * k.val + j) = n + (s + 128 * k.val) + j by omega] at this)
      (loopV ROW TX TH (n + s) k.val a)
    rw [show n + (s + 128 * k.val) = n + s + 128 * k.val by omega] at h
    iapply h
    iexact H
  iintro H Hk
  iapply (Scf.wp_for_bind frame (wpE D₀ 𝒱₀ (thr d L) none) Set.univ _ _ _ ok a _
    (fun k a' => iprop(⌜a' = loopV ROW TX TH (n + s) k a⌝ ∗ rowHeld d L ROW ∗ chunkHeld d L TX TH ib tb n)) hbody) $$ [H]
  · isplitr; · ipureintro; rfl
    iexact H
  iintro %a' ⟨%ha, H⟩
  subst ha
  iapply Hk
  iexact H

end Loops

end Cert.Proof.KI
-- ==== Proof.CopyI.lean ====
module

public import proofs.«01_k».proof.Proof.LoopI

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig (HIx 1) (Elt F) ℕ UU ℕ

/-! ## A tile's copies -/

section Copies

variable (D₀ : Defs nD τ sig (Elt F) Λ₀) (d : Dev nD) (L : grid1.Coords)

/-- A buffer of the tile, held whole, reads as `G`. -/
def Holds {sp : Space} {s : Shape} {e : EltTy} (b : Memref sig .scVector sp s e) (G : s.Idx → Elt F e) : sProp 𝕄 :=
  iprop(∃ f : Buf (Elt F) (b.view.loc (thr d L)), ⌜b.view.read (Elt F) f = G⌝ ∗ (b.view.loc (thr d L) ↦[Finset.univ]{fullShare} f))

/-- A copy under way into the buffer `dst`, to leave it reading as `G`. -/
abbrev Landing {sp : Space} {s : Shape} {e : EltTy} (dst : Memref sig .scVector sp s e) (sem : DmaSem sig) (G : s.Idx → Elt F e) : sProp 𝕄 :=
  Flight countersEmb (thr d L) (.dma sem) none dst.view.dmaCredit (Holds d L dst G)

/-- Part of an array may be held where all of it is. -/
theorem pts_part {ℓ : Loc nD τ sig} {q : PosShare TreeShare} {f : Buf (Elt F) ℓ} {A B : Finset (Idx ℓ)} (h : A ⊆ B) :
    (ℓ ↦[B]{q} f : sProp 𝕄) ⊢ (ℓ ↦[A]{q} f) := (pointsTo_split_subset h).1.trans sep_elim_left

/-- A copy of a whole view into a buffer, started. -/
theorem start_wp {α : Type} {s : Shape} {e : EltTy} (src : Memref sig .scVector .hbm s e) (hs : src.view.WordExact)
    (dst : Memref sig .scVector .vmem s e) (hd : dst.IsWhole) (sem : DmaSem sig) (hpos : 0 < s.numel) (q : PosShare TreeShare)
    (fs : Buf (Elt F) (src.view.loc (thr d L))) (G G' : s.Idx → Elt F e) (hG : src.view.read (Elt F) fs = G') (k : PUnit → TP F L α) (Q : α → sProp 𝕄) :
    iprop((src.view.loc (thr d L) ↦[Finset.univ]{q} fs) ∗ Holds d L dst G ∗ semVal (thr d L, .dma sem) 0) ⊢
      iprop((Landing d L dst sem G' -∗ wp frame (wpE D₀ 𝒱₀ (thr d L) none) Set.univ (k ⟨⟩) Q)
        -∗ wp frame (wpE D₀ 𝒱₀ (thr d L) none) Set.univ (startP L src hs dst hd sem >>= k) Q) := by
  subst hG
  unfold Holds
  iintro ⟨Hs, ⟨%fd, -, Hd⟩, Hv⟩ Hk
  ihave Hs := (pts_part (Finset.subset_univ src.view.set)) $$ Hs
  iapply (wp_dmaLocal countersEmb 𝒱₀ (thr d L) none (src := src) (dst := dst) (Sd := Finset.univ) (q := q) (fs := fs) (fd := fd) none dst.view.dmaCredit rfl
    (View.dmaCredit_pos _ hpos) (Finset.subset_univ _)) $$ [Hs Hd Hv]
  · isplitl [Hs]; · iexact Hs
    isplitl [Hd] <;> iassumption
  iintro Hf
  iapply Hk
  iapply (Flight_mono countersEmb (thr d L) ?hm) $$ Hf
  iintro ⟨Hd, -⟩
  unfold Holds
  iexists _
  isplitr
  rotate_left
  · iexact Hd
  · ipureintro
    exact View.read_write_univ _ _

/-- and waited for. -/
theorem wait_wp {α : Type} {s : Shape} {e : EltTy} (src : Memref sig .scVector .hbm s e) (hs : src.view.WordExact)
    (dst : Memref sig .scVector .vmem s e) (hd : dst.IsWhole) (sem : DmaSem sig) (G : s.Idx → Elt F e)
    (O : CellTallies nD τ sig (HIx 1)) (W : Waits sig (HIx 1)) (k : PUnit → TP F L α) (Q : α → sProp 𝕄) :
    iprop(MayWaits (thr d L) none O ∗ Landing d L dst sem G ∗ owes (thr d L) O W) ⊢
      iprop((iprop(Holds d L dst G ∗ semVal (thr d L, .dma sem) 0 ∗ owes (thr d L) O (insert (SemLoc.dma sem, none) W))
            -∗ wp frame (wpE D₀ 𝒱₀ (thr d L) none) Set.univ (k ⟨⟩) Q)
        -∗ wp frame (wpE D₀ 𝒱₀ (thr d L) none) Set.univ (waitP L src hs dst hd sem >>= k) Q) := by
  iintro ⟨Hm, Hf, HO⟩ Hk
  ihave Hm := (MayWaits.elim (.dma sem)) $$ Hm
  iapply (wp_waitLocalO countersEmb 𝒱₀ (thr d L) none (dstw := dst) none rfl) $$ [Hf HO Hm]
  · isplitl [Hf]; · iexact Hf
    isplitl [HO] <;> iassumption
  iexact Hk

end Copies

end Cert.Proof.KI
-- ==== Proof.TileI.lean ====
module

public import proofs.«01_k».proof.Proof.CopyI

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig (HIx 1) (Elt F) ℕ UU ℕ

/-! ## A tile's task -/

section Tile

variable (D₀ : Defs nD τ sig (Elt F) Λ₀) (d : Dev nD) (L : grid1.Coords)
variable (ROW : ℕ → F .f32) (TX : ℕ → BitVec 32) (TH : ℕ → F .f32)

/-- Where each chunk starts. -/
def chunkAt : Fin 4 → ℕ := ![0, 6272, 12544, 18728]

theorem chunk_of_holds (ib : Memref sig .scVector .vmem S6272 .i32) (tb : Memref sig .scVector .vmem S6272 .f32) (n : ℕ) :
    iprop(Holds d L ib (fun j => TX (n + (j 0).val)) ∗ Holds d L tb (fun j => TH (n + (j 0).val))) ⊢ (chunkHeld d L TX TH ib tb n : sProp 𝕄) := by
  unfold Holds chunkHeld
  iintro ⟨⟨%fi, %hi, Hi⟩, ⟨%ft, %ht, Ht⟩⟩
  iexists fi, ft
  isplitr; · ipureintro; exact ⟨fun j => congrFun hi j, fun j => congrFun ht j⟩
  isplitl [Hi] <;> iassumption

theorem holds_of_chunk (ib : Memref sig .scVector .vmem S6272 .i32) (tb : Memref sig .scVector .vmem S6272 .f32) (n : ℕ) :
    (chunkHeld d L TX TH ib tb n : sProp 𝕄) ⊢ iprop(Holds d L ib (fun j => TX (n + (j 0).val)) ∗ Holds d L tb (fun j => TH (n + (j 0).val))) := by
  unfold Holds chunkHeld
  iintro ⟨%fi, %ft, ⟨%hi, %ht⟩, Hi, Ht⟩
  isplitl [Hi]
  · iexists fi
    isplitr; · ipureintro; exact funext hi
    iexact Hi
  · iexists ft
    isplitr; · ipureintro; exact funext ht
    iexact Ht

theorem row_of_holds : (Holds d L rowB (fun j => ROW (j 0).val) : sProp 𝕄) ⊢ rowHeld d L ROW := by
  unfold Holds
  iintro ⟨%f, %hf, H⟩
  have hf' : f = fun i : S100000.Idx => ROW (i 0).val := hf
  subst hf'
  iexact H

theorem holds_of_row : (rowHeld d L ROW : sProp 𝕄) ⊢ Holds d L rowB (fun j => ROW (j 0).val) := by
  unfold Holds
  iintro H
  iexists _
  isplitr
  rotate_left
  · iexact H
  · ipureintro; rfl

/-- Some contents are some reading. -/
theorem holds_any {sp : Space} {s : Shape} {e : EltTy} (b : Memref sig .scVector sp s e) :
    iprop(∃ f : Buf (Elt F) (b.view.loc (thr d L)), b.view.loc (thr d L) ↦[Finset.univ]{fullShare} f)
      ⊢ (iprop(∃ G : s.Idx → Elt F e, Holds d L b G) : sProp 𝕄) := by
  iintro ⟨%f, H⟩
  iexists b.view.read (Elt F) f
  unfold Holds
  iexists f
  isplitr; · ipureintro; rfl
  iexact H

theorem any_of_holds {sp : Space} {s : Shape} {e : EltTy} (b : Memref sig .scVector sp s e) (G : s.Idx → Elt F e) :
    (Holds d L b G : sProp 𝕄) ⊢ iprop(∃ f : Buf (Elt F) (b.view.loc (thr d L)), b.view.loc (thr d L) ↦[Finset.univ]{fullShare} f) := by
  unfold Holds
  iintro ⟨%f, -, H⟩
  iexists f
  iexact H

/-- What the tile's own six buffers hold, whatever it is; and its six semaphores, at zero. -/
def ownScratch : sProp 𝕄 :=
  iprop((∃ G, Holds d L rowB G) ∗ (∃ G, Holds d L ixA G) ∗ (∃ G, Holds d L thA G) ∗ (∃ G, Holds d L ixB G) ∗ (∃ G, Holds d L thB G) ∗ (∃ G, Holds d L accB G))
def ownSems : sProp 𝕄 :=
  iprop(semVal (thr d L, .dma cc1_scratch6.sem) 0 ∗ semVal (thr d L, .dma cc1_scratch7.sem) 0 ∗ semVal (thr d L, .dma cc1_scratch8.sem) 0
    ∗ semVal (thr d L, .dma cc1_scratch9.sem) 0 ∗ semVal (thr d L, .dma cc1_scratch10.sem) 0 ∗ semVal (thr d L, .dma cc1_scoped0.sem) 0)

/-- Read shares of the three arrays: one of the rows, and of the other two one for each chunk. -/
def srcHeld (qr : PosShare TreeShare) (q : Fin 4 → PosShare TreeShare) (fR : Buf (Elt F) ((rowSrc L).view.loc (thr d L)))
    (fX : Buf (Elt F) ((tixV : Memref sig .scVector .hbm S802816 .i32).view.loc (thr d L)))
    (fH : Buf (Elt F) ((thV : Memref sig .scVector .hbm S802816 .f32).view.loc (thr d L))) : sProp 𝕄 :=
  iprop(((rowSrc L).view.loc (thr d L) ↦[Finset.univ]{qr} fR)
    ∗ (((ixSrc L 0).view.loc (thr d L) ↦[Finset.univ]{q 0} fX) ∗ ((thSrc L 0).view.loc (thr d L) ↦[Finset.univ]{q 0} fH))
    ∗ (((ixSrc L 1).view.loc (thr d L) ↦[Finset.univ]{q 1} fX) ∗ ((thSrc L 1).view.loc (thr d L) ↦[Finset.univ]{q 1} fH))
    ∗ (((ixSrc L 2).view.loc (thr d L) ↦[Finset.univ]{q 2} fX) ∗ ((thSrc L 2).view.loc (thr d L) ↦[Finset.univ]{q 2} fH))
    ∗ (((ixSrc L 3).view.loc (thr d L) ↦[Finset.univ]{q 3} fX) ∗ ((thSrc L 3).view.loc (thr d L) ↦[Finset.univ]{q 3} fH)))

/-- The tile's sixteen words of the result, held. -/
def outHeld (g : Buf (Elt F) ((outDst L).view.loc (thr d L))) : sProp 𝕄 :=
  (outDst L).view.loc (thr d L) ↦[(outDst L).view.set]{fullShare} g

/-- The lane sums stored over the whole of their buffer are what it then reads as. -/
theorem acc_read (f : Buf (Elt F) ((accB : Memref sig .scVector .vmem S16 .f32).view.loc (thr d L))) (w : FVec F S16 .f32) :
    (accB : Memref sig .scVector .vmem S16 .f32).view.read (Elt F)
      ((accB.access (Rect.unit (s := S16) ![0] S16.size inb_S16_S16_0)).write (Elt F) f w Finset.univ) = w := by
  have h := View.read_write_univ (Val := Elt F) (v := (accB : Memref sig .scVector .vmem S16 .f32).access (Rect.unit (s := S16) ![0] S16.size inb_S16_S16_0)) f w
  have h2 := Memref.read_access_unit_zero (Elt F) cc1_scratch5 (off := ![0]) (by funext a; fin_cases a; rfl) inb_S16_S16_0
    ((accB.access (Rect.unit (s := S16) ![0] S16.size inb_S16_S16_0)).write (Elt F) f w Finset.univ)
  exact (h2.symm.trans h)

/-- A chunk started into a pair of staging buffers. -/
theorem startPair_wp {α : Type} (r : Fin 4) (ib : Memref sig .scVector .vmem S6272 .i32) (hib : ib.IsWhole) (tb : Memref sig .scVector .vmem S6272 .f32) (htb : tb.IsWhole)
    (si st : DmaSem sig) (hsi : (ixSrc L r).view.WordExact) (hst : (thSrc L r).view.WordExact) (q : PosShare TreeShare)
    (fX : Buf (Elt F) ((tixV : Memref sig .scVector .hbm S802816 .i32).view.loc (thr d L)))
    (fH : Buf (Elt F) ((thV : Memref sig .scVector .hbm S802816 .f32).view.loc (thr d L)))
    (hX : (ixSrc L r).view.read (Elt F) fX = fun j => TX (chunkAt r + (j 0).val))
    (hH : (thSrc L r).view.read (Elt F) fH = fun j => TH (chunkAt r + (j 0).val))
    (Gi : S6272.Idx → Elt F .i32) (Gt : S6272.Idx → Elt F .f32) (k : PUnit → TP F L α) (Q : α → sProp 𝕄) :
    iprop((((ixSrc L r).view.loc (thr d L) ↦[Finset.univ]{q} fX) ∗ ((thSrc L r).view.loc (thr d L) ↦[Finset.univ]{q} fH))
        ∗ (Holds d L ib Gi ∗ Holds d L tb Gt) ∗ semVal (thr d L, .dma si) 0 ∗ semVal (thr d L, .dma st) 0) ⊢
      iprop((iprop(Landing d L ib si (fun j => TX (chunkAt r + (j 0).val)) ∗ Landing d L tb st (fun j => TH (chunkAt r + (j 0).val)))
          -∗ wp frame (wpE D₀ 𝒱₀ (thr d L) none) Set.univ (k ⟨⟩) Q)
        -∗ wp frame (wpE D₀ 𝒱₀ (thr d L) none) Set.univ
          (startP L (ixSrc L r) hsi ib hib si >>= fun _ => startP L (thSrc L r) hst tb htb st >>= k) Q) := by
  iintro ⟨⟨Hx, Hh⟩, ⟨Hi, Ht⟩, Hvi, Hvt⟩ Hk
  iapply (start_wp D₀ d L (ixSrc L r) _ ib _ si (by decide) q fX Gi _ hX) $$ [Hx Hi Hvi]
  · isplitl [Hx]; · iexact Hx
    isplitl [Hi] <;> iassumption
  iintro Hfi
  iapply (start_wp D₀ d L (thSrc L r) _ tb _ st (by decide) q fH Gt _ hH) $$ [Hh Ht Hvt]
  · isplitl [Hh]; · iexact Hh
    isplitl [Ht] <;> iassumption
  iintro Hft
  iapply Hk
  isplitl [Hfi] <;> iassumption

/-- and waited for. -/
theorem waitPair_wp {α : Type} (r : Fin 4) (n : ℕ) (ib : Memref sig .scVector .vmem S6272 .i32) (hib : ib.IsWhole) (tb : Memref sig .scVector .vmem S6272 .f32) (htb : tb.IsWhole)
    (si st : DmaSem sig) (hsi : (ixSrc L r).view.WordExact) (hst : (thSrc L r).view.WordExact)
    (O : CellTallies nD τ sig (HIx 1)) (W₀ : Waits sig (HIx 1)) (k : PUnit → TP F L α) (Q : α → sProp 𝕄) :
    iprop(MayWaits (thr d L) none O ∗ (Landing d L ib si (fun j => TX (n + (j 0).val)) ∗ Landing d L tb st (fun j => TH (n + (j 0).val)))
        ∗ ∃ W, ⌜∀ p ∈ W, p ∈ W₀ ∨ p.2 = none⌝ ∗ owes (thr d L) O W) ⊢
      iprop((iprop(chunkHeld d L TX TH ib tb n ∗ (semVal (thr d L, .dma si) 0 ∗ semVal (thr d L, .dma st) 0)
            ∗ ∃ W, ⌜∀ p ∈ W, p ∈ W₀ ∨ p.2 = none⌝ ∗ owes (thr d L) O W)
          -∗ wp frame (wpE D₀ 𝒱₀ (thr d L) none) Set.univ (k ⟨⟩) Q)
        -∗ wp frame (wpE D₀ 𝒱₀ (thr d L) none) Set.univ
          (waitP L (ixSrc L r) hsi ib hib si >>= fun _ => waitP L (thSrc L r) hst tb htb st >>= k) Q) := by
  iintro ⟨#Hm, ⟨Hfi, Hft⟩, ⟨%W, %hW, HO⟩⟩ Hk
  iapply (wait_wp D₀ d L (ixSrc L r) _ ib _ si _ O _) $$ [Hfi HO]
  · isplitr; · iexact Hm
    isplitl [Hfi] <;> iassumption
  iintro ⟨Hi, Hvi, HO⟩
  iapply (wait_wp D₀ d L (thSrc L r) _ tb _ st _ O _) $$ [Hft HO]
  · isplitr; · iexact Hm
    isplitl [Hft] <;> iassumption
  iintro ⟨Ht, Hvt, HO⟩
  iapply Hk
  isplitl [Hi Ht]
  · iapply (chunk_of_holds d L TX TH ib tb n)
    isplitl [Hi] <;> iassumption
  isplitl [Hvi Hvt]
  · isplitl [Hvi] <;> iassumption
  iexists _
  isplitr
  rotate_left
  · iexact HO
  · ipureintro
    intro p hp
    rcases Finset.mem_insert.mp hp with rfl | hp
    · exact Or.inr rfl
    rcases Finset.mem_insert.mp hp with rfl | hp
    · exact Or.inr rfl
    exact hW p hp

/-- A wait at the tile's own index adds nothing that counts against what it owes. -/
theorem owes_grown (c : Thread nD τ) (O : CellTallies nD τ sig (HIx 1)) (W : Waits sig (HIx 1)) (sem : DmaSem sig) :
    (owes c O (insert (SemLoc.dma sem, (none : HIx 1)) W) : sProp 𝕄) ⊢ iprop(∃ W', ⌜∀ p ∈ W', p ∈ W ∨ p.2 = none⌝ ∗ owes c O W') := by
  iintro H
  iexists _
  isplitr
  rotate_left
  · iexact H
  · ipureintro
    intro p hp
    rcases Finset.mem_insert.mp hp with rfl | hp
    · exact Or.inr rfl
    exact Or.inl hp

theorem trips1 : k1_t1_loop.trips = 49 := by decide +kernel
theorem trips2 : k1_t2_loop.trips = 49 := by decide +kernel
theorem trips3 : k1_t3_loop.trips = 49 := by decide +kernel
theorem trips4 : k1_t4_loop.trips = 48 := by decide +kernel

theorem acc_set : (accB : Memref sig .scVector .vmem S16 .f32).view.set = Finset.univ := View.set_whole _

set_option maxHeartbeats 4000000 in
/-- The task: from the shares of the three arrays and the tile's words of the result, those words at the
    lane sums `tileV`, and the tile's buffers and semaphores as they were. -/
theorem tile_wp (qr : PosShare TreeShare) (q : Fin 4 → PosShare TreeShare) (fR : Buf (Elt F) ((rowSrc L).view.loc (thr d L)))
    (fX : Buf (Elt F) ((tixV : Memref sig .scVector .hbm S802816 .i32).view.loc (thr d L)))
    (fH : Buf (Elt F) ((thV : Memref sig .scVector .hbm S802816 .f32).view.loc (thr d L)))
    (hR : (rowSrc L).view.read (Elt F) fR = fun j => ROW (j 0).val)
    (hX : ∀ r, (ixSrc L r).view.read (Elt F) fX = fun j => TX (chunkAt r + (j 0).val))
    (hH : ∀ r, (thSrc L r).view.read (Elt F) fH = fun j => TH (chunkAt r + (j 0).val))
    (hTX : ∀ n < 25000, (TX n).toNat < 100000)
    (g₀ : Buf (Elt F) ((outDst L).view.loc (thr d L))) (O : CellTallies nD τ sig (HIx 1)) (W : Waits sig (HIx 1)) :
    iprop(MayWaits (thr d L) none O ∗ srcHeld d L qr q fR fX fH ∗ outHeld d L g₀ ∗ ownScratch d L ∗ ownSems d L ∗ owes (thr d L) O W) ⊢
      wp frame (wpE D₀ 𝒱₀ (thr d L) none) Set.univ (tileP L) fun _ =>
        iprop((∃ g, ⌜(outDst L).view.read (Elt F) g = tileV ROW TX TH⌝ ∗ outHeld d L g) ∗ ownScratch d L ∗ ownSems d L
          ∗ ∃ W', ⌜∀ p ∈ W', p ∈ W ∨ p.2 = none⌝ ∗ owes (thr d L) O W' : sProp 𝕄) := by
  unfold srcHeld ownScratch ownSems
  simp only [tileP, startA, startB, awaitA, awaitB, bind_assoc]
  iintro ⟨#Hm, ⟨Hsr, Hs0, Hs1, Hs2, Hs3⟩, Ho, ⟨⟨%G0, Hb0⟩, ⟨%G1, Hb1⟩, ⟨%G2, Hb2⟩, ⟨%G3, Hb3⟩, ⟨%G4, Hb4⟩, ⟨%G5, Hb5⟩⟩,
    ⟨Hv6, Hv7, Hv8, Hv9, Hv10, Hv0⟩, HO⟩
  -- the row and the first two chunks under way
  iapply (start_wp D₀ d L (rowSrc L) _ rowB _ _ (by decide) qr fR G0 _ hR) $$ [Hsr Hb0 Hv6]
  · isplitl [Hsr]; · iexact Hsr
    isplitl [Hb0] <;> iassumption
  iintro Hf6
  iapply (startPair_wp D₀ d L TX TH 0 ixA _ thA _ _ _ _ _ (q 0) fX fH (hX 0) (hH 0) G1 G2) $$ [Hs0 Hb1 Hb2 Hv7 Hv8]
  · isplitl [Hs0]; · iexact Hs0
    isplitl [Hb1 Hb2]; · isplitl [Hb1] <;> iassumption
    isplitl [Hv7] <;> iassumption
  iintro HfA
  iapply (startPair_wp D₀ d L TX TH 1 ixB _ thB _ _ _ _ _ (q 1) fX fH (hX 1) (hH 1) G3 G4) $$ [Hs1 Hb3 Hb4 Hv9 Hv10]
  · isplitl [Hs1]; · iexact Hs1
    isplitl [Hb3 Hb4]; · isplitl [Hb3] <;> iassumption
    isplitl [Hv9] <;> iassumption
  iintro HfB
  iapply (wait_wp D₀ d L (rowSrc L) _ rowB _ _ _ O _) $$ [Hf6 HO]
  · isplitr; · iexact Hm
    isplitl [Hf6] <;> iassumption
  iintro ⟨Hb0, Hv6, HO⟩
  ihave Hrow := (row_of_holds d L ROW) $$ Hb0
  ihave HO := (owes_grown (thr d L) O W cc1_scratch6.sem) $$ HO
  -- chunk 0
  iapply (waitPair_wp D₀ d L TX TH 0 0 ixA _ thA _ _ _ _ _ O W) $$ [HfA HO]
  · isplitr; · iexact Hm
    isplitl [HfA]; · iexact HfA
    iexact HO
  iintro ⟨HcA, ⟨Hv7, Hv8⟩, HO⟩
  iapply (loop_wp D₀ d L ROW TX TH ixA thA 0 0 k1_t1_loop k1_t1_ok oI1 oT1 oI1_inb oT1_inb oI1_eq oT1_eq
    (fun j hj => hTX _ (by rw [trips1] at hj; omega)) _) $$ [Hrow HcA]
  · isplitl [Hrow] <;> iassumption
  iintro ⟨Hrow, HcA⟩
  -- chunk 2 under way; chunk 1
  ihave ⟨Hb1, Hb2⟩ := (holds_of_chunk d L TX TH ixA thA 0) $$ HcA
  iapply (startPair_wp D₀ d L TX TH 2 ixA _ thA _ _ _ _ _ (q 2) fX fH (hX 2) (hH 2) _ _) $$ [Hs2 Hb1 Hb2 Hv7 Hv8]
  · isplitl [Hs2]; · iexact Hs2
    isplitl [Hb1 Hb2]; · isplitl [Hb1] <;> iassumption
    isplitl [Hv7] <;> iassumption
  iintro HfA
  iapply (waitPair_wp D₀ d L TX TH 1 6272 ixB _ thB _ _ _ _ _ O W) $$ [HfB HO]
  · isplitr; · iexact Hm
    isplitl [HfB]; · iexact HfB
    iexact HO
  iintro ⟨HcB, ⟨Hv9, Hv10⟩, HO⟩
  iapply (loop_wp D₀ d L ROW TX TH ixB thB 6272 0 k1_t2_loop k1_t2_ok oI2 oT2 oI2_inb oT2_inb oI2_eq oT2_eq
    (fun j hj => hTX _ (by rw [trips2] at hj; omega)) _) $$ [Hrow HcB]
  · isplitl [Hrow] <;> iassumption
  iintro ⟨Hrow, HcB⟩
  -- chunk 3 under way; chunk 2
  ihave ⟨Hb3, Hb4⟩ := (holds_of_chunk d L TX TH ixB thB 6272) $$ HcB
  iapply (startPair_wp D₀ d L TX TH 3 ixB _ thB _ _ _ _ _ (q 3) fX fH (hX 3) (hH 3) _ _) $$ [Hs3 Hb3 Hb4 Hv9 Hv10]
  · isplitl [Hs3]; · iexact Hs3
    isplitl [Hb3 Hb4]; · isplitl [Hb3] <;> iassumption
    isplitl [Hv9] <;> iassumption
  iintro HfB
  iapply (waitPair_wp D₀ d L TX TH 2 12544 ixA _ thA _ _ _ _ _ O W) $$ [HfA HO]
  · isplitr; · iexact Hm
    isplitl [HfA]; · iexact HfA
    iexact HO
  iintro ⟨HcA, ⟨Hv7, Hv8⟩, HO⟩
  iapply (loop_wp D₀ d L ROW TX TH ixA thA 12544 0 k1_t3_loop k1_t3_ok oI3 oT3 oI3_inb oT3_inb oI3_eq oT3_eq
    (fun j hj => hTX _ (by rw [trips3] at hj; omega)) _) $$ [Hrow HcA]
  · isplitl [Hrow] <;> iassumption
  iintro ⟨Hrow, HcA⟩
  -- chunk 3: three units, then its loop
  iapply (waitPair_wp D₀ d L TX TH 3 18728 ixB _ thB _ _ _ _ _ O W) $$ [HfB HO]
  · isplitr; · iexact Hm
    isplitl [HfB]; · iexact HfB
    iexact HO
  iintro ⟨HcB, ⟨Hv9, Hv10⟩, HO⟩
  icombine Hrow HcB as H
  iapply (unit_wp D₀ d L ROW TX TH ixB thB 18728 80 _ _ _ _ rfl rfl (fun j => hTX _ (by omega))) $$ H; iintro H
  iapply (unit_wp D₀ d L ROW TX TH ixB thB 18728 96 _ _ _ _ rfl rfl (fun j => hTX _ (by omega))) $$ H; iintro H
  iapply (unit_wp D₀ d L ROW TX TH ixB thB 18728 112 _ _ _ _ rfl rfl (fun j => hTX _ (by omega))) $$ H; iintro H
  iapply (loop_wp D₀ d L ROW TX TH ixB thB 18728 128 k1_t4_loop k1_t4_ok oI4 oT4 oI4_inb oT4_inb oI4_eq oT4_eq
    (fun j hj => hTX _ (by rw [trips4] at hj; omega)) _) $$ H
  iintro ⟨Hrow, HcB⟩
  -- the sums stored and copied out
  unfold outHeld
  have hval : sumAcc (loopV ROW TX TH (18728 + 128) k1_t4_loop.trips (tailAcc (loopV ROW TX TH (12544 + 0) k1_t3_loop.trips
      (loopV ROW TX TH (6272 + 0) k1_t2_loop.trips (loopV ROW TX TH (0 + 0) k1_t1_loop.trips zeroAcc)))
      (unitV ROW TX TH (18728 + 80)) (unitV ROW TX TH (18728 + 96)) (unitV ROW TX TH (18728 + 112)))) = tileV ROW TX TH := by
    rw [trips1, trips4]; rfl
  rw [hval]
  ihave ⟨%fa, Ha⟩ := (any_of_holds d L accB G5) $$ Hb5
  iapply (wp_load 𝒱₀ (thr d L) none Set.univ (m := accB) (S := Finset.univ) (Finset.subset_univ _)) $$ Ha; iintro Ha
  iapply (wp_store 𝒱₀ (thr d L) none Set.univ (m := accB) (r := Rect.unit (s := S16) ![0] S16.size inb_S16_S16_0) (Mk := Finset.univ)
    (S := Finset.univ) (Finset.subset_univ _)) $$ Ha; iintro Ha
  have hsub : (outDst L).view.set ⊆ (outDst L).view.set := Finset.Subset.refl _
  ihave Ha := (pts_part (Finset.subset_univ (accB : Memref sig .scVector .vmem S16 .f32).view.set)) $$ Ha
  iapply (wp_dmaLocal countersEmb 𝒱₀ (thr d L) none (src := accB) (dst := outDst L) (Sd := (outDst L).view.set) (q := fullShare) none
    (outDst L).view.dmaCredit rfl (View.dmaCredit_pos _ (by decide)) hsub) $$ [Ha Ho Hv0]
  · isplitl [Ha]; · iexact Ha
    isplitl [Ho] <;> iassumption
  iintro Hf
  icases HO with ⟨%W', %hW', HO⟩
  ihave Hmw := (MayWaits.elim (.dma cc1_scoped0.sem)) $$ Hm
  iapply (wp_waitLocalO countersEmb 𝒱₀ (thr d L) none (dstw := outDst L) none rfl) $$ [Hf HO Hmw]
  · isplitl [Hf]; · iexact Hf
    isplitl [HO] <;> iassumption
  iintro ⟨⟨Ho, Ha⟩, Hv0, HO⟩
  rw [show ((Prog.ret PUnit.unit : TP F L PUnit).bind fun _ => Pure.pure PUnit.unit) = Prog.ret PUnit.unit from rfl, wp_ret]
  imodintro
  isplitl [Ho]
  · iexists _
    isplitr
    rotate_left
    · iexact Ho
    · ipureintro
      rw [View.read_write_univ]
      exact acc_read d L fa _
  ihave ⟨Hb1, Hb2⟩ := (holds_of_chunk d L TX TH ixA thA 12544) $$ HcA
  ihave ⟨Hb3, Hb4⟩ := (holds_of_chunk d L TX TH ixB thB 18728) $$ HcB
  ihave Hb0 := (holds_of_row d L ROW) $$ Hrow
  isplitl [Hb0 Hb1 Hb2 Hb3 Hb4 Ha]
  · isplitl [Hb0]; · iexists _; iexact Hb0
    isplitl [Hb1]; · iexists _; iexact Hb1
    isplitl [Hb2]; · iexists _; iexact Hb2
    isplitl [Hb3]; · iexists _; iexact Hb3
    isplitl [Hb4]; · iexists _; iexact Hb4
    rw [acc_set]
    iapply (holds_any d L accB)
    iexists _
    iexact Ha
  isplitl [Hv6 Hv7 Hv8 Hv9 Hv10 Hv0]
  · isplitl [Hv6]; · iexact Hv6
    isplitl [Hv7]; · iexact Hv7
    isplitl [Hv8]; · iexact Hv8
    isplitl [Hv9]; · iexact Hv9
    isplitl [Hv10]; · iexact Hv10
    iexact Hv0
  iexists _
  isplitr
  rotate_left
  · iexact HO
  · ipureintro
    intro p hp
    rcases Finset.mem_insert.mp hp with rfl | hp
    · exact Or.inr rfl
    exact hW' p hp

end Tile

end Cert.Proof.KI
-- ==== Proof.DataI.lean ====
module

public import proofs.«01_k».proof.Proof.TileI

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

/-! ## What the arrays hold, by position -/

section Data

variable (A : S16x100000.Idx → F .f32) (B : S16.Idx → BitVec 32) (X : S16x50000.Idx → BitVec 32) (H : S16x50000.Idx → F .f32)

/-- Indices by their positions, each position taken within its axis. -/
def ixB16 (s : ℕ) : S16.Idx := fun a => match a with | 0 => ⟨s % 16, Nat.mod_lt _ (by decide)⟩
def ixP (s n : ℕ) : S16x100000.Idx := fun a => match a with
  | 0 => ⟨s % 16, Nat.mod_lt _ (by decide)⟩ | 1 => ⟨n % 100000, Nat.mod_lt _ (by decide)⟩
def ixT (s n : ℕ) : S16x50000.Idx := fun a => match a with
  | 0 => ⟨s % 16, Nat.mod_lt _ (by decide)⟩ | 1 => ⟨n % 50000, Nat.mod_lt _ (by decide)⟩
def ixL (n : ℕ) : S16.Idx := ixB16 n

/-- Word `n` of the row of predictions batch `s` reads: the row the batch's own index names. -/
def rowOf (s n : ℕ) : F .f32 := A (ixP (B (ixB16 s)).toNat n)
/-- Index `n` and target `n` of batch `s`. -/
def tixOf (s n : ℕ) : BitVec 32 := X (ixT s n)
def thOf (s n : ℕ) : F .f32 := H (ixT s n)

/-- The lane sums of half `c` of batch `s`. -/
def partV (s c : ℕ) : FVec F S16 .f32 :=
  tileV (rowOf A B s) (fun n => tixOf X s (25000 * c + n)) (fun n => thOf H s (25000 * c + n))

/-- The 512 words the tiles leave. -/
def resV (j : S512.Idx) : F .f32 := partV A B X H ((j 0).val / 32) ((j 0).val / 16 % 2) (ixL (j 0).val)

/-- The rows, the indices and the targets laid out one batch after another, each batch padded by words
    of which nothing is said. -/
def GoodR (R : S1605632.Idx → F .f32) : Prop :=
  ∀ j, (j 0).val % 100352 < 100000 → R j = rowOf A B ((j 0).val / 100352) ((j 0).val % 100352)
def GoodX (R : S802816.Idx → BitVec 32) : Prop :=
  ∀ j, (j 0).val % 50176 < 50000 → R j = tixOf X ((j 0).val / 50176) ((j 0).val % 50176)
def GoodH (R : S802816.Idx → F .f32) : Prop :=
  ∀ j, (j 0).val % 50176 < 50000 → R j = thOf H ((j 0).val / 50176) ((j 0).val % 50176)

end Data

/-! ## Where a tile reads and writes -/

section Geometry

variable (d : Dev nD) (L : grid1.Coords)

theorem off2_eq : ∀ (L : grid1.Coords) (r : Fin 4), k1_off2 L (k1_off2_at r) = ![50176 * (L 1).val + 25000 * (L 0).val + chunkAt r] := by
  decide +kernel

theorem chunkAt_le : ∀ r, chunkAt r + 6272 ≤ 25000 := by decide

theorem L0_lt : (L 0).val < 2 := (L 0).isLt
theorem L1_lt : (L 1).val < 16 := (L 1).isLt

/-- The tile's row of predictions, read. -/
theorem row_read (A : S16x100000.Idx → F .f32) (B : S16.Idx → BitVec 32) (R : S1605632.Idx → F .f32) (h : GoodR A B R) :
    (rowSrc L).view.read (Elt F) R = fun j => rowOf A B (L 1).val (j 0).val := by
  funext j
  have hj : (j 0).val < 100000 := (j 0).isLt
  have e : (((rowSrc L).view.emb j : S1605632.Idx) 0).val = 100352 * (L 1).val + (j 0).val := by
    show k1_off1 L 0 + 1 * (j 0).val = _
    rw [k1_off1_eq]; simp
  have key := h ((rowSrc L).view.emb j)
  simp only [e] at key
  refine (key (by omega)).trans ?_
  congr 1 <;> omega

/-- Chunk `r` of the tile's indices, read; -/
theorem ix_read (X : S16x50000.Idx → BitVec 32) (R : S802816.Idx → BitVec 32) (h : GoodX X R) (r : Fin 4) :
    (ixSrc L r).view.read (Elt F) R = fun j => (fun n => tixOf X (L 1).val (25000 * (L 0).val + n)) (chunkAt r + (j 0).val) := by
  funext j
  have hj : (j 0).val < 6272 := (j 0).isLt
  have h0 := L0_lt L
  have hr := chunkAt_le r
  have e : (((ixSrc L r).view.emb j : S802816.Idx) 0).val = 50176 * (L 1).val + (25000 * (L 0).val + (chunkAt r + (j 0).val)) := by
    show k1_off2 L (k1_off2_at r) 0 + 1 * (j 0).val = _
    rw [off2_eq]; simp; omega
  show R ((ixSrc L r).view.emb j) = tixOf X (L 1).val (25000 * (L 0).val + (chunkAt r + (j 0).val))
  have key := h ((ixSrc L r).view.emb j)
  have ht : 25000 * (L 0).val + (chunkAt r + (j 0).val) < 50000 := by omega
  simp only [e] at key
  generalize 25000 * (L 0).val + (chunkAt r + (j 0).val) = t at key ht ⊢
  rw [Nat.mul_add_mod, Nat.mod_eq_of_lt (by omega), Nat.mul_add_div (by decide), Nat.div_eq_of_lt (by omega), Nat.add_zero] at key
  exact key ht

/-- and of its targets. -/
theorem th_read (H : S16x50000.Idx → F .f32) (R : S802816.Idx → F .f32) (h : GoodH H R) (r : Fin 4) :
    (thSrc L r).view.read (Elt F) R = fun j => (fun n => thOf H (L 1).val (25000 * (L 0).val + n)) (chunkAt r + (j 0).val) := by
  funext j
  have hj : (j 0).val < 6272 := (j 0).isLt
  have h0 := L0_lt L
  have hr := chunkAt_le r
  have e : (((thSrc L r).view.emb j : S802816.Idx) 0).val = 50176 * (L 1).val + (25000 * (L 0).val + (chunkAt r + (j 0).val)) := by
    show k1_off2 L (k1_off2_at r) 0 + 1 * (j 0).val = _
    rw [off2_eq]; simp; omega
  show R ((thSrc L r).view.emb j) = thOf H (L 1).val (25000 * (L 0).val + (chunkAt r + (j 0).val))
  have key := h ((thSrc L r).view.emb j)
  have ht : 25000 * (L 0).val + (chunkAt r + (j 0).val) < 50000 := by omega
  simp only [e] at key
  generalize 25000 * (L 0).val + (chunkAt r + (j 0).val) = t at key ht ⊢
  rw [Nat.mul_add_mod, Nat.mod_eq_of_lt (by omega), Nat.mul_add_div (by decide), Nat.div_eq_of_lt (by omega), Nat.add_zero] at key
  exact key ht

theorem out_emb (j : S16.Idx) : (((outDst L).view.emb j : S512.Idx) 0).val = 32 * (L 1).val + 16 * (L 0).val + (j 0).val := by
  show k1_off39 L 0 + 1 * (j 0).val = _
  rw [k1_off39_eq]; simp

/-- The words of the result half `c` of batch `s` writes. -/
def outSet (c s : ℕ) : Finset S512.Idx := Finset.univ.filter fun j => (j 0).val / 16 = 2 * s + c

theorem out_set : (outDst L).view.set = outSet (L 0).val (L 1).val := by
  ext j
  constructor
  · intro hj
    obtain ⟨i, -, rfl⟩ := Finset.mem_map.mp hj
    have hi : (i 0).val < 16 := (i 0).isLt
    refine Finset.mem_filter.mpr ⟨Finset.mem_univ _, ?_⟩
    rw [out_emb]; omega
  · intro hj
    have hj := (Finset.mem_filter.mp hj).2
    refine Finset.mem_map.mpr ⟨ixL (j 0).val, Finset.mem_univ _, ?_⟩
    funext a
    match a with
    | 0 =>
      refine Fin.ext ?_
      rw [out_emb]
      show _ + (j 0).val % 16 = _
      omega

/-- The tile's words, once they read as its lane sums, are the words of `resV`. -/
theorem out_val (A : S16x100000.Idx → F .f32) (B : S16.Idx → BitVec 32) (X : S16x50000.Idx → BitVec 32) (H : S16x50000.Idx → F .f32)
    (g : S512.Idx → F .f32) (hg : (outDst L).view.read (Elt F) g = partV A B X H (L 1).val (L 0).val) :
    ∀ j ∈ outSet (L 0).val (L 1).val, g j = resV A B X H j := by
  intro j hj
  rw [← out_set] at hj
  obtain ⟨i, -, rfl⟩ := Finset.mem_map.mp hj
  have hi : (i 0).val < 16 := (i 0).isLt
  have h0 := L0_lt L
  refine (congrFun hg i).trans ?_
  unfold resV
  rw [out_emb, show (32 * (L 1).val + 16 * (L 0).val + (i 0).val) / 32 = (L 1).val by omega,
    show (32 * (L 1).val + 16 * (L 0).val + (i 0).val) / 16 % 2 = (L 0).val by omega]
  congr 1
  funext a
  match a with
  | 0 =>
    refine Fin.ext ?_
    show (i 0).val = (32 * (L 1).val + 16 * (L 0).val + (i 0).val) % 16
    omega

theorem outSet_disjoint {c s c' s' : ℕ} (hc : c < 2) (hc' : c' < 2) (h : c ≠ c' ∨ s ≠ s') : Disjoint (outSet c s) (outSet c' s') :=
  Finset.disjoint_left.mpr fun j h1 h2 => by
    have h1 := (Finset.mem_filter.mp h1).2
    have h2 := (Finset.mem_filter.mp h2).2
    omega

/-- The words half `c` of every batch writes, together; and the halves make the whole. -/
def outHalf (c : ℕ) : Finset S512.Idx := Finset.univ.filter fun j => (j 0).val / 16 % 2 = c

theorem half_cover {c : ℕ} (hc : c < 2) : (Finset.univ : Finset (Fin 16)).biUnion (fun s => outSet c s.val) = outHalf c := by
  ext j
  have hj : (j 0).val < 512 := (j 0).isLt
  simp only [Finset.mem_biUnion, Finset.mem_univ, true_and, outSet, outHalf, Finset.mem_filter]
  constructor
  · rintro ⟨s, hs⟩; omega
  · intro h; exact ⟨⟨(j 0).val / 32, by omega⟩, by show _ = 2 * ((j 0).val / 32) + c; omega⟩

theorem halves_cover : (Finset.univ : Finset (Fin 2)).biUnion (fun c => outHalf c.val) = Finset.univ := by
  ext j
  simp only [Finset.mem_biUnion, Finset.mem_univ, true_and, outHalf, Finset.mem_filter, iff_true]
  exact ⟨⟨(j 0).val / 16 % 2, Nat.mod_lt _ (by decide)⟩, rfl⟩

theorem halves_disjoint {c c' : ℕ} (h : c ≠ c') : Disjoint (outHalf c) (outHalf c') :=
  Finset.disjoint_left.mpr fun j h1 h2 => h ((Finset.mem_filter.mp h1).2.symm.trans (Finset.mem_filter.mp h2).2)

end Geometry

end Cert.Proof.KI

end
-- ==== Proof.PayI.lean ====
module

public import proofs.«01_k».proof.Proof.DataI
public import proofs.«01_k».proof.Proof.Gen.KernelIdeal.Launch

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig (HIx 1) (Elt F) ℕ UU ℕ

/-! ## The program as the launch theorem takes it -/

abbrev ΛP : Labels := Pipeline.Sig Λ₀ (Fin 1) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱 : Variants := 𝒱₀.lift
abbrev v₀ : 𝒱.V := Sum.inl none

omit [FloatOps F] in
theorem nSub_zero [FloatOps F] : (K (F := F)).nSub 0 = 16 := rfl
theorem nCore_zero : (K (F := F)).nCore 0 = 2 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The launch memory and the arrays -/

variable (m : (ℓ : Loc nD τ sig) → Buf (Elt F) ℓ)

abbrev pLoc (d : Dev nD) : Loc nD τ sig := (SparseCore.T d).loc main_arg0
abbrev bLoc (d : Dev nD) : Loc nD τ sig := (SparseCore.T d).loc main_arg1
abbrev xLoc (d : Dev nD) : Loc nD τ sig := (SparseCore.T d).loc main_arg2
abbrev hLoc (d : Dev nD) : Loc nD τ sig := (SparseCore.T d).loc main_arg3
abbrev rowsLoc (d : Dev nD) : Loc nD τ sig := (SparseCore.T d).loc main_v0_0
abbrev tixLoc (d : Dev nD) : Loc nD τ sig := (SparseCore.T d).loc main_v0_1
abbrev thLoc (d : Dev nD) : Loc nD τ sig := (SparseCore.T d).loc main_v0_2
abbrev oLoc (d : Dev nD) : Loc nD τ sig := (SparseCore.T d).loc main_v1

/-- What the proof asks of the launch memory: every batch's row names a row, and every index a word of one. -/
def PreOK : Prop := ∀ d : Dev nD, (∀ j, (m (bLoc d) j : BitVec 32).toNat < 16) ∧ ∀ j, (m (xLoc d) j : BitVec 32).toNat < 100000

/-- The words the tiles leave, of the launch memory. -/
abbrev resM (d : Dev nD) : Buf (Elt F) (oLoc d) := resV (m (pLoc d)) (m (bLoc d)) (m (xLoc d)) (m (hLoc d))

/-! ## What the handshakes carry -/

/-- A read share of the three arrays the TensorCore laid out. -/
def srcPts (d : Dev nD) (q : PosShare TreeShare) : sProp 𝕄 :=
  iprop(∃ (R : Buf (Elt F) (rowsLoc d)) (X : Buf (Elt F) (tixLoc d)) (H : Buf (Elt F) (thLoc d)),
    ⌜GoodR (m (pLoc d)) (m (bLoc d)) R ∧ GoodX (m (xLoc d)) X ∧ GoodH (m (hLoc d)) H⌝
      ∗ (rowsLoc d ↦{q} R) ∗ (tixLoc d ↦{q} X) ∗ (thLoc d ↦{q} H))

/-- The share of a SparseCore, and of a tile. -/
abbrev qc (c : ℕ) : PosShare TreeShare := shareTokN fullShare c
abbrev qt (c i : ℕ) : PosShare TreeShare := shareTokN (qc c) i

/-- A SparseCore takes a read share of the arrays and its half of the result's words, a tile a share of that
    share and its own sixteen words; the words come back at `resM`. -/
def P : (K (F := F)).Pay (nD := nD) (Val := Elt F) (Name := ℕ) (U := UU) where
  st := fun q d c => match q with | 0 => iprop(srcPts m d (qc c.val) ∗ (oLoc d ↦[outHalf c.val]{fullShare} m (oLoc d)))
  dn := fun q d c => match q with | 0 => oLoc d ↦[outHalf c.val]{fullShare} resM m d
  go := fun q d c i => match q with
    | 0 => iprop(srcPts m d (qt c.val i.val) ∗ (oLoc d ↦[outSet c.val i.val]{fullShare} m (oLoc d)))
  td := fun q d c i => match q with | 0 => oLoc d ↦[outSet c.val i.val]{fullShare} resM m d
  x := fun _ _ => iprop(emp)

instance P_storable : (P (F := F) m).IsStorable where
  st q d c := match q with
    | 0 => by show BI.Storable (upEmb : UEmb _ 𝕄) iprop(srcPts m d (qc c.val) ∗ (oLoc d ↦[outHalf c.val]{fullShare} m (oLoc d))); unfold srcPts; infer_instance
  dn q d c := match q with
    | 0 => by show BI.Storable (upEmb : UEmb _ 𝕄) (oLoc d ↦[outHalf c.val]{fullShare} resM m d); infer_instance
  go q d c i := match q with
    | 0 => by show BI.Storable (upEmb : UEmb _ 𝕄) iprop(srcPts m d (qt c.val i.val) ∗ (oLoc d ↦[outSet c.val i.val]{fullShare} m (oLoc d))); unfold srcPts; infer_instance
  td q d c i := match q with
    | 0 => by show BI.Storable (upEmb : UEmb _ 𝕄) (oLoc d ↦[outSet c.val i.val]{fullShare} resM m d); infer_instance

/-! ## Splitting -/

theorem src_split (d : Dev nD) (q : PosShare TreeShare) (n : ℕ) :
    srcPts m d q ⊢ (bigSep Finset.univ fun i : Fin n => srcPts m d (shareTokN q i.val) : sProp 𝕄) := by
  unfold srcPts
  iintro ⟨%R, %X, %H, %hg, HR, HX, HH⟩
  ihave ⟨-, HR⟩ := (pointsTo_toks q n).1 $$ HR
  ihave ⟨-, HX⟩ := (pointsTo_toks q n).1 $$ HX
  ihave ⟨-, HH⟩ := (pointsTo_toks q n).1 $$ HH
  icombine HR HX HH as H
  have e : ∀ i : Fin n, i ∈ (Finset.univ : Finset (Fin n)) →
      (iprop((rowsLoc d ↦{shareTok q n i} R) ∗ (tixLoc d ↦{shareTok q n i} X) ∗ (thLoc d ↦{shareTok q n i} H)) : sProp 𝕄) ⊢
        iprop(∃ (R : Buf (Elt F) (rowsLoc d)) (X : Buf (Elt F) (tixLoc d)) (H : Buf (Elt F) (thLoc d)),
          ⌜GoodR (m (pLoc d)) (m (bLoc d)) R ∧ GoodX (m (xLoc d)) X ∧ GoodH (m (hLoc d)) H⌝
            ∗ (rowsLoc d ↦{shareTokN q i.val} R) ∗ (tixLoc d ↦{shareTokN q i.val} X) ∗ (thLoc d ↦{shareTokN q i.val} H)) := by
    intro i _
    iintro H
    iexists R, X, H
    isplitr; · ipureintro; exact hg
    iexact H
  have e' : (bigSep Finset.univ (fun i : Fin n => iprop((rowsLoc d ↦{shareTok q n i} R) ∗ (tixLoc d ↦{shareTok q n i} X) ∗ (thLoc d ↦{shareTok q n i} H))) : sProp 𝕄)
      ⊢ bigSep Finset.univ fun i : Fin n => iprop(∃ (R : Buf (Elt F) (rowsLoc d)) (X : Buf (Elt F) (tixLoc d)) (H : Buf (Elt F) (thLoc d)),
          ⌜GoodR (m (pLoc d)) (m (bLoc d)) R ∧ GoodX (m (xLoc d)) X ∧ GoodH (m (hLoc d)) H⌝
            ∗ (rowsLoc d ↦{shareTokN q i.val} R) ∗ (tixLoc d ↦{shareTokN q i.val} X) ∗ (thLoc d ↦{shareTokN q i.val} H)) := BI.bigSep_mono e
  rw [bigSep_sep', bigSep_sep'] at e'
  iapply e'
  iexact H

theorem half_pts (d : Dev nD) {c : ℕ} (hc : c < 2) (f : Buf (Elt F) (oLoc d)) :
    (oLoc d ↦[outHalf c]{fullShare} f : sProp 𝕄) = bigSep Finset.univ fun i : Fin 16 => oLoc d ↦[outSet c i.val]{fullShare} f := by
  rw [← pointsTo_biUnion Finset.univ (ℓ := oLoc d) (fun i : Fin 16 => outSet c i.val)
    (fun i _ j _ h => outSet_disjoint hc hc (Or.inr fun e => h (Fin.ext e)))]
  exact congrArg (fun S => (oLoc d ↦[S]{fullShare} f : sProp 𝕄)) (half_cover hc).symm

theorem whole_pts (d : Dev nD) (f : Buf (Elt F) (oLoc d)) :
    (oLoc d ↦{fullShare} f : sProp 𝕄) = bigSep Finset.univ fun c : Fin 2 => oLoc d ↦[outHalf c.val]{fullShare} f := by
  rw [← pointsTo_biUnion Finset.univ (ℓ := oLoc d) (fun c : Fin 2 => outHalf c.val)
    (fun i _ j _ h => halves_disjoint fun e => h (Fin.ext e))]
  exact congrArg (fun S => (oLoc d ↦[S]{fullShare} f : sProp 𝕄)) halves_cover.symm

/-- How a SparseCore's share and half go out to its tiles, and the half comes back. -/
theorem vecSplit : (K (F := F)).VecSplit' (P m) 0 := by
  intro d c
  have hc : c.val < 2 := c.isLt
  show iprop(srcPts m d (qc c.val) ∗ (oLoc d ↦[outHalf c.val]{fullShare} m (oLoc d))) ⊢ |={Set.univ}=> iprop(
      (bigSep Finset.univ fun i : Fin 16 => iprop(srcPts m d (shareTokN (qc c.val) i.val) ∗ (oLoc d ↦[outSet c.val i.val]{fullShare} m (oLoc d))))
      ∗ ((bigSep Finset.univ fun i : Fin 16 => oLoc d ↦[outSet c.val i.val]{fullShare} resM m d)
          -∗ (oLoc d ↦[outHalf c.val]{fullShare} resM m d)))
  rw [bigSep_sep', ← half_pts d hc, ← half_pts d hc]
  iintro ⟨Hs, Ho⟩
  imodintro
  isplitl
  · isplitl [Hs]
    · iapply (src_split m d (qc c.val) 16); iexact Hs
    · iexact Ho
  iintro H; iexact H

end Cert.Proof.KI

end
-- ==== Proof.PrepI.lean ====
/- The preparation's body, at one grid point: it copies one row of the predictions, of the indices and of
   the targets into the front of three blocks. -/
module

public import proofs.«01_k».proof.Proof.PayI
public import proofs.«01_k».proof.Proof.Gen.KernelIdeal.Skeleton
public import Idealize.ShloMosaic.Lib.Pipeline.Value

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig (HIx 1) (Elt F) ℕ UU ℕ

/-- An index of a block of eight rows, by its positions, each taken within its axis. -/
def ix8 (s n : ℕ) : S8x50000.Idx := fun a => match a with
  | 0 => ⟨s % 8, Nat.mod_lt _ (by decide)⟩ | 1 => ⟨n % 50000, Nat.mod_lt _ (by decide)⟩

/-- The batch a grid point prepares. -/
def bat (i : grid0.Coords) : ℕ := 8 * (i 0).val + (i 1).val

theorem i0_lt (i : grid0.Coords) : (i 0).val < 2 := (i 0).isLt
theorem i1_lt (i : grid0.Coords) : (i 1).val < 8 := (i 1).isLt

/-- What the front of each block holds after the body. -/
def PreR (A : S16x100000.Idx → F .f32) (B : S16.Idx → BitVec 32) (i : grid0.Coords) (Z : S100352.Idx → F .f32) : Prop :=
  ∀ j, (j 0).val < 100000 → Z j = rowOf A B (bat i) (j 0).val
def PreX {α : Type} (X : S8x50000.Idx → α) (i : grid0.Coords) (Z : S50176.Idx → α) : Prop :=
  ∀ j, (j 0).val < 50000 → Z j = X (ix8 (i 1).val (j 0).val)

/-- An index of a row, by its position. -/
def ixF {n : ℕ} (k : ℕ) (h : k < n) : (⟨1, ![n]⟩ : Shape).Idx := fun a => match a with | 0 => ⟨k, h⟩

section Read

variable {κ : Kind} {sp : Space}

/-- A block whose first words were stored reads them back. -/
theorem front {N n : ℕ} {e : EltTy} (v : View sig κ sp (⟨1, ![N]⟩ : Shape) e) (inb : ∀ a, (![0] : Fin 1 → ℕ) a + (![n] : Fin 1 → ℕ) a ≤ (![N] : Fin 1 → ℕ) a)
    (f : v.ty.Contents (Elt F)) (w : (⟨1, ![n]⟩ : Shape).Idx → Elt F e) (j : (⟨1, ![N]⟩ : Shape).Idx) (hj : (j 0).val < n) :
    v.read (Elt F) ((v.slice (Rect.unit (s := ⟨1, ![N]⟩) ![0] ![n] inb)).write (Elt F) f w Finset.univ) j
      = w (ixF (j 0).val hj) := by
  have e : j = (Rect.unit (s := ⟨1, ![N]⟩) ![0] ![n] inb).emb (ixF (j 0).val hj) := by
    funext a; match a with
    | 0 => apply Fin.ext; show (j 0).val = 0 + 1 * (j 0).val; omega
  conv_lhs => rw [e]
  exact View.read_slice_write_emb (v := v) (Rect.unit (s := ⟨1, ![N]⟩) ![0] ![n] inb) f w (Finset.mem_univ _)

end Read

/-- The word of the table the body loads. -/
theorem tab_ix (i : grid0.Coords) (x : S1.Idx) :
    (Rect.unit (s := S16) (k0_off1 i) S1.size (k0_off1_inb i)).emb x = ixB16 (bat i) := by
  have h0 := i0_lt i; have h1 := i1_lt i
  funext a; match a with
  | 0 =>
    apply Fin.ext
    have hx : (x 0).val = 0 := by have : (x 0).val < 1 := (x 0).isLt; omega
    show k0_off1 i 0 + 1 * (x 0).val = bat i % 16
    rw [k0_off1_eq, hx]; simp [bat]; omega

/-- The row of the predictions it loads, -/
theorem row_ix (w : BitVec 32) (hw : k0_chk1 w) (n : S100000.Idx) :
    (Rect.unit (s := S16x100000) (k0_off2 w) S1x100000.size (k0_off2_inb w hw)).idx (Fin.cons ⟨0, Nat.one_pos⟩ n)
      = ixP w.toNat (n 0).val := by
  have hn : (n 0).val < 100000 := (n 0).isLt
  have h16 : w.toNat < 16 := by
    have h : w.toNat + 1 ≤ 16 := hw 0
    omega
  funext a; match a with
  | 0 => apply Fin.ext; show w.toNat + 1 * 0 = w.toNat % 16; omega
  | 1 => apply Fin.ext; show 0 + 1 * (n 0).val = (n 0).val % 100000; omega

/-- and the row of a block of eight. -/
theorem blk_ix (i : grid0.Coords) (n : S50000.Idx) :
    (Rect.unit (s := S8x50000) (k0_off3 i) S1x50000.size (k0_off3_inb i)).idx (Fin.cons ⟨0, Nat.one_pos⟩ n)
      = ix8 (i 1).val (n 0).val := by
  have h1 := i1_lt i
  have hn : (n 0).val < 50000 := (n 0).isLt
  funext a; match a with
  | 0 =>
    apply Fin.ext; show k0_off3 i 0 + 1 * 0 = (i 1).val % 8
    rw [k0_off3_eq]; simp; omega
  | 1 =>
    apply Fin.ext; show k0_off3 i 1 + 1 * (n 0).val = (n 0).val % 50000
    rw [k0_off3_eq]; simp; omega

/-- A word below 16 names a row of the predictions. -/
theorem chk_of_lt (w : BitVec 32) (h : w.toNat < 16) : k0_chk1 w := by
  intro a; match a with
  | 0 => show w.toNat + 1 ≤ 16; omega
  | 1 => show 0 + 100000 ≤ 100000; omega

theorem pay1_eq (v : Vec F S1x100000 .f32) (n : S100000.Idx) : k0_pay1 v n = v (Fin.cons ⟨0, Nat.one_pos⟩ n) :=
  shapeCast_dropUnit_apply ![100000] v shapeCasts_S1x100000_S100000 n
theorem pay2_eq (v : Vec F S1x50000 .i32) (n : S50000.Idx) : k0_pay2 v n = v (Fin.cons ⟨0, Nat.one_pos⟩ n) :=
  shapeCast_dropUnit_apply ![50000] v shapeCasts_S1x50000_S50000 n
theorem pay3_eq (v : Vec F S1x50000 .f32) (n : S50000.Idx) : k0_pay3 v n = v (Fin.cons ⟨0, Nat.one_pos⟩ n) :=
  shapeCast_dropUnit_apply ![50000] v shapeCasts_S1x50000_S50000 n

section Body

section Steps

variable {Λ : Labels} {defs : Defs nD τ sig (Elt F) Λ} (𝒱 : Variants) (c : Thread nD τ)

/-- A load from a view held at `X` reads `X` at the elements the load names; -/
theorem owns_load {cs : CoreSpace} {s : Shape} {e : EltTy} (a : Memref sig c.2.kind cs s e) (X : s.Idx → Elt F e) {r : LoadRect s}
    {hl : a.view.LoadsAt r} {α : Type} {k : (r.shape.Idx → Elt F e) → Prog (TpuEff nD τ sig (Elt F) Λ c.2) α} {Q : α → sProp 𝕄} :
    owns c a fullShare X
      ⊢ (iprop((owns c a fullShare X -∗ wp frame (wpE defs 𝒱 c none) Set.univ (k fun x => X (r.idx x)) Q)
        -∗ wp frame (wpE defs 𝒱 c none) Set.univ (.op (.load a r hl) k) Q) : sProp 𝕄) := by
  unfold owns
  iintro ⟨%f, %e, H⟩ Hk
  subst e
  iapply (wp_load 𝒱 c none Set.univ (m := a) (f := f) (S := a.view.set) (q := fullShare) (View.setOn_subset_set _ _)) $$ H
  iintro H
  iapply Hk $$ [H]
  iexists f; isplitr; · ipureintro; rfl
  iexact H

/-- and a store to the front of a row leaves the row holding the stored words there. -/
theorem owns_store {cs : CoreSpace} {N n : ℕ} {e : EltTy} (a : Memref sig c.2.kind cs (⟨1, ![N]⟩ : Shape) e)
    (Y : (⟨1, ![N]⟩ : Shape).Idx → Elt F e) (inb : ∀ a, (![0] : Fin 1 → ℕ) a + (![n] : Fin 1 → ℕ) a ≤ (![N] : Fin 1 → ℕ) a)
    {w : (⟨1, ![n]⟩ : Shape).Idx → Elt F e} {hx} {hm} {α : Type} {k : PUnit → Prog (TpuEff nD τ sig (Elt F) Λ c.2) α} {Q : α → sProp 𝕄} :
    owns c a fullShare Y
      ⊢ (iprop(((∃ Z, ⌜∀ j, ∀ hj : (j 0).val < n, Z j = w (ixF (j 0).val hj)⌝ ∗ owns c a fullShare Z)
            -∗ wp frame (wpE defs 𝒱 c none) Set.univ (k ⟨⟩) Q)
        -∗ wp frame (wpE defs 𝒱 c none) Set.univ
            (.op (.store a (Rect.unit (s := ⟨1, ![N]⟩) ![0] ![n] inb) w Finset.univ hx hm) k) Q) : sProp 𝕄) := by
  iintro H Hk
  ihave H := (show owns c a fullShare Y ⊢ (iprop(∃ f, ⌜a.view.read (Elt F) f = Y⌝ ∗ a.view.loc c ↦[a.view.set]{fullShare} f) : sProp 𝕄)
    from .rfl) $$ H
  icases H with ⟨%f, -, H⟩
  iapply (wp_store 𝒱 c none Set.univ (m := a) (r := Rect.unit (s := ⟨1, ![N]⟩) ![0] ![n] inb) (Mk := Finset.univ)
    (View.set_slice_subset _ _)) $$ H
  iintro H
  iapply Hk
  ihave H := (owns_intro c a fullShare _) $$ H
  iexists _; isplitr; rotate_left; · iexact H
  ipureintro; intro j hj
  exact front a.view inb f w j hj

end Steps

variable (c : Dev nD) (i : grid0.Coords)
  (a3 : Memref sig .tc .vmem S16x100000 .f32) (h3 : a3.IsWhole) (a4 : Memref sig .tc .vmem S8x50000 .i32) (h4 : a4.IsWhole)
  (a5 : Memref sig .tc .vmem S8x50000 .f32) (h5 : a5.IsWhole) (a6 : Memref sig .tc .vmem S100352 .f32) (h6 : a6.IsWhole)
  (a7 : Memref sig .tc .vmem S50176 .i32) (h7 : a7.IsWhole) (a8 : Memref sig .tc .vmem S50176 .f32) (h8 : a8.IsWhole)

set_option maxHeartbeats 400000 in
/-- One grid point: with the table's word below 16, the body leaves the inputs as they were and the three
    blocks' fronts filled. -/
theorem prep_wp (B : Buf (Elt F) (bLoc c)) (hB : (B (ixB16 (bat i))).toNat < 16) (X3 : S16x100000.Idx → F .f32) (X4 : S8x50000.Idx → BitVec 32)
    (X5 : S8x50000.Idx → F .f32) (Y6 : S100352.Idx → F .f32) (Y7 : S50176.Idx → BitVec 32) (Y8 : S50176.Idx → F .f32) :
    iprop((bLoc c ↦{fullShare} B) ∗ owns (T c) a3 fullShare X3 ∗ owns (T c) a4 fullShare X4
        ∗ owns (T c) a5 fullShare X5 ∗ owns (T c) a6 fullShare Y6 ∗ owns (T c) a7 fullShare Y7
        ∗ owns (T c) a8 fullShare Y8)
      ⊢ (wp frame (wpE (defs₀ (F := F)) 𝒱₀ (T c) none) Set.univ
          (cc0__prep_body i (Memref.whole main_arg1) (Memref.isWhole_whole _) a3 h3 a4 h4 a5 h5 a6 h6 a7 h7 a8 h8) fun _ =>
          iprop((bLoc c ↦{fullShare} B) ∗ owns (T c) a3 fullShare X3 ∗ owns (T c) a4 fullShare X4
            ∗ owns (T c) a5 fullShare X5
            ∗ (∃ Z, ⌜PreR X3 B i Z⌝ ∗ owns (T c) a6 fullShare Z)
            ∗ (∃ Z, ⌜PreX X4 i Z⌝ ∗ owns (T c) a7 fullShare Z)
            ∗ (∃ Z, ⌜PreX X5 i Z⌝ ∗ owns (T c) a8 fullShare Z)) : sProp 𝕄) := by
  rw [cc0__prep_body_eq_skeleton]
  unfold cc0__prep_body_skel
  iintro ⟨HB, H3, H4, H5, H6, H7, H8⟩
  simp only [wp_bind, smemLoad]
  iapply (wp_smemLoadElt 𝒱₀ (T c) none Set.univ (m := Memref.whole main_arg1)
    (r := Rect.unit (s := S16) (k0_off1 i) S1.size (k0_off1_inb i)) (f := B) (S := Finset.univ) (q := fullShare)
    (Finset.subset_univ _)) $$ HB
  iintro HB; rw [wp_ret]; imodintro
  rw [show (((Memref.whole main_arg1 : Memref sig .tc .smem S16 .i32).access (Rect.unit (s := S16) (k0_off1 i) S1.size (k0_off1_inb i))).read (Elt F) B
      (Shape.Idx.first (numel1_S1.symm ▸ Nat.one_pos))) = B (ixB16 (bat i)) from congrArg B (tab_ix i _)]
  iapply (wp_assume 𝒱₀ (T c) none Set.univ (chk_of_lt _ hB)); rw [wp_ret]; imodintro
  iapply (owns_load 𝒱₀ (T c) a3 X3) $$ H3
  iintro H3; rw [wp_ret]; imodintro
  iapply (owns_load 𝒱₀ (T c) a6 Y6) $$ H6
  iintro H6; rw [wp_ret]; imodintro
  iapply (owns_store 𝒱₀ (T c) a6 Y6 inb_S100352_S100000_0) $$ H6
  iintro ⟨%Z6, %hZ6, H6⟩; rw [wp_ret]; imodintro
  iapply (owns_load 𝒱₀ (T c) a4 X4) $$ H4
  iintro H4; rw [wp_ret]; imodintro
  iapply (owns_load 𝒱₀ (T c) a7 Y7) $$ H7
  iintro H7; rw [wp_ret]; imodintro
  iapply (owns_store 𝒱₀ (T c) a7 Y7 inb_S50176_S50000_0) $$ H7
  iintro ⟨%Z7, %hZ7, H7⟩; rw [wp_ret]; imodintro
  iapply (owns_load 𝒱₀ (T c) a5 X5) $$ H5
  iintro H5; rw [wp_ret]; imodintro
  iapply (owns_load 𝒱₀ (T c) a8 Y8) $$ H8
  iintro H8; rw [wp_ret]; imodintro
  iapply (owns_store 𝒱₀ (T c) a8 Y8 inb_S50176_S50000_0) $$ H8
  iintro ⟨%Z8, %hZ8, H8⟩; rw [wp_ret]; imodintro
  rw [wp_pure]; imodintro
  isplitl [HB]; · iexact HB
  isplitl [H3]; · iexact H3
  isplitl [H4]; · iexact H4
  isplitl [H5]; · iexact H5
  isplitl [H6]
  · iexists Z6; isplitr; rotate_left; · iexact H6
    ipureintro; intro j hj
    refine (hZ6 j hj).trans ((pay1_eq _ _).trans (congrArg X3 ((row_ix _ (chk_of_lt _ hB) _).trans rfl)))
  isplitl [H7]
  · iexists Z7; isplitr; rotate_left; · iexact H7
    ipureintro; intro j hj
    exact (hZ7 j hj).trans ((pay2_eq _ _).trans (congrArg X4 (blk_ix i _)))
  iexists Z8; isplitr; rotate_left; · iexact H8
  ipureintro; intro j hj
  exact (hZ8 j hj).trans ((pay3_eq _ _).trans (congrArg X5 (blk_ix i _)))

end Body

end Cert.Proof.KI

end
-- ==== Proof.WinI.lean ====
/- The preparation's windows: what a fetch leaves in a staging buffer, and what the three outputs hold
   after some of their blocks were written back. -/
module

public import proofs.«01_k».proof.Proof.PrepI

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig (HIx 1) (Elt F) ℕ UU ℕ

/-! ## The grid's points and the index maps -/

/-- The point before. -/
def before (t : Fin grid0.N) : Fin grid0.N := ⟨t.val - 1, Nat.lt_of_le_of_lt (Nat.sub_le _ _) t.isLt⟩

theorem bat_coords : ∀ t : Fin grid0.N, bat (grid0.coords t) = t.val := by decide
theorem row_coords : ∀ t : Fin grid0.N, (grid0.coords t 0).val = t.val / 8 := by decide
theorem tr1_eq : ∀ t : Fin grid0.N, cc0_transform_1 (grid0.coords t) = ![t.val / 8, 0] := by decide
theorem tr2_eq : ∀ t : Fin grid0.N, cc0_transform_2 (grid0.coords t) = ![t.val / 8, 0] := by decide
theorem tr3_eq : ∀ t : Fin grid0.N, cc0_transform_3 (grid0.coords t) = ![t.val] := by decide
theorem tr4_eq : ∀ t : Fin grid0.N, cc0_transform_4 (grid0.coords t) = ![t.val] := by decide
theorem tr5_eq : ∀ t : Fin grid0.N, cc0_transform_5 (grid0.coords t) = ![t.val] := by decide

variable (m : (ℓ : Loc nD τ sig) → Buf (Elt F) ℓ)

/-- The table the launch reads. -/
def adm : (p : Fin 1) → (pcfgs (F := F) p).Adm := fun _ => ⟨fun k => m ((SparseCore.T (0 : Dev nD)).loc (pre0.ref k)), trivial⟩

/-- What a staging buffer holds once the body has run at a point: an input its block, an output the batch's
    row on the block's front. -/
def Ok (c : Dev nD) : (w : Fin 6) → Fin grid0.N → (((spec0 w).block).Idx → Elt F (spec0 w).elt) → Prop
  | 0 => fun _ X => X = m (pLoc c)
  | 1 => fun t X => ∀ j, X j = m (xLoc c) (ixT (8 * (t.val / 8) + (j 0).val) (j 1).val)
  | 2 => fun t X => ∀ j, X j = m (hLoc c) (ixT (8 * (t.val / 8) + (j 0).val) (j 1).val)
  | 3 => fun t X => ∀ j, (j 0).val < 100000 → X j = rowOf (m (pLoc c)) (m (bLoc c)) t.val (j 0).val
  | 4 => fun t X => ∀ j, (j 0).val < 50000 → X j = tixOf (m (xLoc c)) t.val (j 0).val
  | 5 => fun t X => ∀ j, (j 0).val < 50000 → X j = thOf (m (hLoc c)) t.val (j 0).val
  | ⟨_ + 6, h⟩ => absurd h (Nat.not_lt.2 (Nat.le_add_left _ _))

/-- The region's data: the arrays as launched, what the body leaves, the table held throughout. -/
def rdats (O : Dev nD → CellTallies nD τ sig (HIx 1)) (Rec : Dev nD → Set (SemLoc sig × HIx 1)) (p : Fin 1) (c : Dev nD) :
    Pipeline.RDat τ (Elt F) (HIx 1) ℕ UU ℕ (Pipeline.pin (pcfgs (F := F)) (adm m) p) c where
  A w := m (((cfg0 (adm m 0)).win w).arr.view.loc (T c))
  after w t _ X := Ok m c w t X
  Φ _ := iprop(bLoc c ↦{fullShare} m (bLoc c))
  q _ := fullShare
  owed _ := O c
  recorded _ := Rec c

section Found

variable (O : Dev nD → CellTallies nD τ sig (HIx 1)) (Rec : Dev nD → Set (SemLoc sig × HIx 1)) (c : Dev nD)

/-- What the body leaves is what it is said to leave. -/
theorem ok_of_leaves {w : Fin 6} {t : Fin grid0.N} {X} (h : (rdats m O Rec 0 c).Leaves w t X) : Ok m c w t X :=
  let ⟨_, _, h'⟩ := h
  h'

/-- The table's window is the whole table at every point. -/
theorem fetched0 (t : Fin grid0.N) (d) : Ok m c 0 t ((rdats m O Rec 0 c).fetched 0 t d) := by
  show _ = _
  funext j
  show m (pLoc c) _ = m (pLoc c) j
  congr 1
  funext a
  refine Fin.ext ?_
  show (![0, 0] : Fin 2 → Nat) a * _ + 1 * (j a).val = (j a).val
  have e : ∀ a : Fin 2, (![0, 0] : Fin 2 → Nat) a = 0 := by decide
  rw [e a, Nat.zero_mul, Nat.zero_add, Nat.one_mul]

/-- A block of eight rows begins at eight times the grid's row. -/
theorem blk_row {t : Fin grid0.N} {n n' k k' : Nat} (h0 : n = t.val / 8) (h0' : n' = 0) (hk : k = 8) (j : S8x50000.Idx) (y : S16x50000.Idx)
    (h : (y 0).val = n * k + 1 * (j 0).val) (h' : (y 1).val = n' * k' + 1 * (j 1).val) :
    y = ixT (8 * (t.val / 8) + (j 0).val) (j 1).val := by
  have ht : t.val < 16 := t.isLt
  have hj : (j 0).val < 8 := (j 0).isLt
  have hj' : (j 1).val < 50000 := (j 1).isLt
  funext a
  refine Fin.ext ?_
  match a with
  | 0 => show (y 0).val = (8 * (t.val / 8) + (j 0).val) % 16; rw [h, h0, hk]; omega
  | 1 => show (y 1).val = (j 1).val % 50000; rw [h', h0']; omega

theorem fetched1 (t : Fin grid0.N) (d) : Ok m c 1 t ((rdats m O Rec 0 c).fetched 1 t d) := by
  intro j
  show m (xLoc c) _ = m (xLoc c) _
  congr 1
  exact blk_row (n := cc0_transform_1 (grid0.coords t) 0) (n' := cc0_transform_1 (grid0.coords t) 1) (k := (spec0 1).size 0) (k' := (spec0 1).size 1)
    (congrFun (tr1_eq t) 0) (congrFun (tr1_eq t) 1) rfl j _ rfl rfl

theorem fetched2 (t : Fin grid0.N) (d) : Ok m c 2 t ((rdats m O Rec 0 c).fetched 2 t d) := by
  intro j
  show m (hLoc c) _ = m (hLoc c) _
  congr 1
  exact blk_row (n := cc0_transform_2 (grid0.coords t) 0) (n' := cc0_transform_2 (grid0.coords t) 1) (k := (spec0 2).size 0) (k' := (spec0 2).size 1)
    (congrFun (tr2_eq t) 0) (congrFun (tr2_eq t) 1) rfl j _ rfl rfl

/-- Two neighbouring points with no fetch at the second have one grid row. -/
theorem same_row {w : Pipeline.Window sig grid0} {t : Fin grid0.N} (hin : w.isOut = false) (hf : w.fetch t = false)
    (ht : t.val ≠ 0) : w.index t = w.index (before t) := by
  simp only [Pipeline.Window.fetch, hin, ht, Bool.not_false, Bool.true_and, decide_false, Bool.false_or,
    decide_eq_false_iff_not, not_exists, not_not] at hf
  exact hf (Nat.pos_of_ne_zero ht)

/-- An input is never written back. -/
theorem no_flush {w : Pipeline.Window sig grid0} (hin : w.isOut = false) (t : Fin grid0.N) : w.flush t = false := by
  simp only [Pipeline.Window.flush, hin, Bool.false_and]

/-- An input is fetched at the first point. -/
theorem first_fetch {w : Pipeline.Window sig grid0} (hin : w.isOut = false) {t : Fin grid0.N} (h0 : t.val = 0) : w.fetch t = true := by
  simp only [Pipeline.Window.fetch, hin, h0, decide_true, Bool.true_or, Bool.not_false, Bool.and_self]

/-- An input is found as said if every fetch leaves it so and a point with no fetch keeps it so. -/
theorem finds_in {w : Fin 6} (hin : ((cfg0 (adm m 0)).win w).isOut = false)
    (hfe : ∀ t d, Ok m c w t ((rdats m O Rec 0 c).fetched w t d))
    (hst : ∀ t : Fin grid0.N, ∀ h0 : t.val ≠ 0, ((cfg0 (adm m 0)).win w).index t = ((cfg0 (adm m 0)).win w).index (before t) →
      ∀ X, Ok m c w (before t) X → Ok m c w t X)
    (t : Fin grid0.N) {X} (h : (rdats m O Rec 0 c).Finds w t X) : Ok m c w t X := by
  by_cases hf : ((cfg0 (adm m 0)).win w).fetch t = true
  · obtain ⟨d, rfl⟩ := ((rdats m O Rec 0 c).finds_of_fetch hf X).1 h
    exact hfe t d
  · have hf' : ((cfg0 (adm m 0)).win w).fetch t = false := Bool.eq_false_iff.mpr hf
    by_cases h0 : t.val = 0
    · exact absurd (first_fetch hin h0) hf
    · rcases ((rdats m O Rec 0 c).finds_of_pos hf' h0 X).1 h with h | h
      · exact absurd (h.symm.trans (no_flush hin _)) (by decide)
      · exact hst t h0 (same_row hin hf' h0) X (ok_of_leaves m O Rec c h)

theorem in0 : ((cfg0 (adm m 0)).win 0).isOut = false := rfl
theorem in1 : ((cfg0 (adm m 0)).win 1).isOut = false := rfl
theorem in2 : ((cfg0 (adm m 0)).win 2).isOut = false := rfl

theorem keep0 (t : Fin grid0.N) (X) (h : Ok m c 0 (before t) X) : Ok m c 0 t X := h

theorem keep1 (t : Fin grid0.N) (e : ((cfg0 (adm m 0)).win 1).index t = ((cfg0 (adm m 0)).win 1).index (before t)) (X)
    (h : Ok m c 1 (before t) X) : Ok m c 1 t X := by
  intro j
  have e : t.val / 8 = (before t).val / 8 :=
    congrFun ((tr1_eq t).symm.trans (Eq.trans (b := cc0_transform_1 (grid0.coords (before t))) e (tr1_eq (before t)))) 0
  rw [e]
  exact h j

theorem keep2 (t : Fin grid0.N) (e : ((cfg0 (adm m 0)).win 2).index t = ((cfg0 (adm m 0)).win 2).index (before t)) (X)
    (h : Ok m c 2 (before t) X) : Ok m c 2 t X := by
  intro j
  have e : t.val / 8 = (before t).val / 8 :=
    congrFun ((tr2_eq t).symm.trans (Eq.trans (b := cc0_transform_2 (grid0.coords (before t))) e (tr2_eq (before t)))) 0
  rw [e]
  exact h j

theorem finds0 (t : Fin grid0.N) (X) (h : (rdats m O Rec 0 c).Finds 0 t X) : Ok m c 0 t X :=
  finds_in m O Rec c (in0 m) (fetched0 m O Rec c) (fun t _ _ X h => keep0 m c t X h) t h

theorem finds1 (t : Fin grid0.N) (X) (h : (rdats m O Rec 0 c).Finds 1 t X) : Ok m c 1 t X :=
  finds_in m O Rec c (in1 m) (fetched1 m O Rec c) (fun t _ e X h => keep1 m c t e X h) t h

theorem finds2 (t : Fin grid0.N) (X) (h : (rdats m O Rec 0 c).Finds 2 t X) : Ok m c 2 t X :=
  finds_in m O Rec c (in2 m) (fetched2 m O Rec c) (fun t _ e X h => keep2 m c t e X h) t h

/-! ## The outputs -/

/-- An output whose block moves at every point is written back at every point. -/
theorem all_flush {w : Pipeline.Window sig grid0} (hout : w.isOut = true)
    (hne : ∀ (t : Fin grid0.N) (h : t.val + 1 < grid0.N), w.index ⟨t.val + 1, h⟩ ≠ w.index t) (t : Fin grid0.N) : w.flush t = true := by
  have ht : t.val < grid0.N := t.isLt
  by_cases h : t.val + 1 = grid0.N
  · simp only [Pipeline.Window.flush, hout, h, decide_true, Bool.true_or, Bool.and_self]
  · have h' : t.val + 1 < grid0.N := by omega
    simp only [Pipeline.Window.flush, hout, Bool.true_and, Bool.or_eq_true, decide_eq_true_eq]
    exact .inr ⟨h', hne t h'⟩

/-- `F` holds `val b k` at place `k` of block `b`, for the first `t` blocks of `n` places and `k` below `L`. -/
def Front {ι α : Type} (pos : ι → Nat) (n L : Nat) (val : Nat → Nat → α) (t : Nat) (F : ι → α) : Prop :=
  ∀ i, pos i < n * t → pos i % n < L → F i = val (pos i / n) (pos i % n)

theorem front_zero {ι α : Type} (pos : ι → Nat) (n L : Nat) (val : Nat → Nat → α) (F : ι → α) : Front pos n L val 0 F :=
  fun _ h => absurd h (Nat.not_lt_zero _)

/-- Writing block `t` extends the front by one block. -/
theorem front_write {n L t : Nat} {e : EltTy} {sp : Space} (v : View sig .tc sp ⟨1, ![n]⟩ e) (pos : v.ty.Idx → Nat)
    (hpos : ∀ x, pos (v.emb x) = t * n + (x 0).val) (hinj : ∀ i i', pos i = pos i' → i = i')
    (val : Nat → Nat → Elt F v.ty.elt) (G : v.ty.Contents (Elt F)) (hG : Front pos n L val t G)
    (X : (⟨1, ![n]⟩ : Shape).Idx → Elt F e)
    (hX : ∀ x, (x 0).val < L → _root_.cast (congrArg (Elt F) v.elt_eq.symm) (X x) = val t (x 0).val) :
    Front pos n L val (t + 1) (v.write (Elt F) G X Finset.univ) := by
  intro i hi hL
  by_cases h : pos i < n * t
  · rw [View.write_of_not_mem]
    · exact hG i h hL
    · intro hm
      obtain ⟨x, -, hx⟩ := Finset.mem_map.1 hm
      have := hpos x
      rw [hx, Nat.mul_comm] at this
      omega
  · have hlt : pos i - n * t < n := by rw [Nat.mul_succ] at hi; omega
    have e1 : pos i = n * t + (pos i - n * t) := by omega
    generalize pos i - n * t = k at hlt e1
    let x : (⟨1, ![n]⟩ : Shape).Idx := fun a => ⟨k, by rw [Fin.eq_zero a]; exact hlt⟩
    have hx : v.emb x = i := hinj _ _ (by rw [hpos x, e1, Nat.mul_comm])
    have hn : 0 < n := Nat.lt_of_le_of_lt (Nat.zero_le _) hlt
    rw [e1, Nat.mul_add_mod, Nat.mod_eq_of_lt hlt] at hL
    rw [e1, Nat.mul_add_mod, Nat.mod_eq_of_lt hlt, Nat.mul_add_div hn, Nat.div_eq_of_lt hlt, Nat.add_zero, ← hx,
      View.write_emb_of_mem _ _ (Finset.mem_univ x)]
    exact hX x hL

/-- An output written back at every point holds what its blocks, written one after another, make of it. -/
theorem arr_ind {w : Fin 6} (hfl : ∀ t, ((cfg0 (adm m 0)).win w).flush t = true)
    (Q : Nat → Buf (Elt F) (((cfg0 (adm m 0)).win w).arr.view.loc (T c)) → Prop) (h0 : ∀ G, Q 0 G)
    (hs : ∀ (t : Fin grid0.N) G X, Q t.val G → Ok m c w t X →
      Q (t.val + 1) ((((cfg0 (adm m 0)).win w).blk t).view.write (Elt F) G (((cfg0 (adm m 0)).win w).cut (grid0.coords t) X) Finset.univ)) :
    ∀ n, n ≤ 16 → ∀ G, (rdats m O Rec 0 c).ArrAt w n G → Q n G
  | 0, _, G, _ => h0 G
  | n + 1, hn, G, h => by
    have hn' : n < grid0.N := hn
    unfold Pipeline.RDat.ArrAt at h
    rw [dif_pos hn', if_pos (hfl ⟨n, hn'⟩)] at h
    obtain ⟨G₀, X, hG, hX, rfl⟩ := h
    exact hs ⟨n, hn'⟩ G₀ X (arr_ind hfl Q h0 hs n (Nat.le_of_lt hn') G₀ hG) (ok_of_leaves m O Rec c hX)

theorem one_inj {n : Nat} (i i' : (⟨1, ![n]⟩ : Shape).Idx) (h : (i 0).val = (i' 0).val) : i = i' :=
  funext fun a => by rw [Fin.eq_zero a]; exact Fin.ext h

theorem point_ne (t : Fin grid0.N) (h : t.val + 1 < grid0.N) : (![t.val + 1] : Fin 1 → Nat) ≠ ![t.val] :=
  fun e => absurd (congrFun e 0) (Nat.succ_ne_self _)

theorem flush3 (t : Fin grid0.N) : ((cfg0 (adm m 0)).win 3).flush t = true :=
  all_flush (w := (cfg0 (adm m 0)).win 3) rfl (fun t h e => point_ne t h
    ((tr3_eq ⟨t.val + 1, h⟩).symm.trans (Eq.trans (b := cc0_transform_3 (grid0.coords t)) e (tr3_eq t)))) t
theorem flush4 (t : Fin grid0.N) : ((cfg0 (adm m 0)).win 4).flush t = true :=
  all_flush (w := (cfg0 (adm m 0)).win 4) rfl (fun t h e => point_ne t h
    ((tr4_eq ⟨t.val + 1, h⟩).symm.trans (Eq.trans (b := cc0_transform_4 (grid0.coords t)) e (tr4_eq t)))) t
theorem flush5 (t : Fin grid0.N) : ((cfg0 (adm m 0)).win 5).flush t = true :=
  all_flush (w := (cfg0 (adm m 0)).win 5) rfl (fun t h e => point_ne t h
    ((tr5_eq ⟨t.val + 1, h⟩).symm.trans (Eq.trans (b := cc0_transform_5 (grid0.coords t)) e (tr5_eq t)))) t

theorem pos_of {n n' k y x : Nat} (h : y = k * n' + 1 * x) (hk : k = n) : y = n * n' + x := by rw [h, hk, Nat.one_mul]

/-- The rows after `n` blocks. -/
theorem arr3 (n : Nat) (hn : n ≤ 16) (G) (h : (rdats m O Rec 0 c).ArrAt 3 n G) :
    Front (fun j : S1605632.Idx => (j 0).val) 100352 100000 (rowOf (m (pLoc c)) (m (bLoc c))) n G :=
  arr_ind m O Rec c (w := 3) (flush3 m) (fun n G => Front (fun j : S1605632.Idx => (j 0).val) 100352 100000 (rowOf (m (pLoc c)) (m (bLoc c))) n G)
    (fun G => front_zero _ _ _ _ G)
    (fun t G X hG hX => front_write (((cfg0 (adm m 0)).win 3).blk t).view _
      (fun x => pos_of (k := cc0_transform_3 (grid0.coords t) 0) (n' := (spec0 3).size 0) rfl (congrFun (tr3_eq t) 0)) one_inj _ G hG _ hX) n hn G h

/-- The indices after `n` blocks. -/
theorem arr4 (n : Nat) (hn : n ≤ 16) (G) (h : (rdats m O Rec 0 c).ArrAt 4 n G) :
    Front (fun j : S802816.Idx => (j 0).val) 50176 50000 (tixOf (m (xLoc c))) n G :=
  arr_ind m O Rec c (w := 4) (flush4 m) (fun n G => Front (fun j : S802816.Idx => (j 0).val) 50176 50000 (tixOf (m (xLoc c))) n G)
    (fun G => front_zero _ _ _ _ G)
    (fun t G X hG hX => front_write (((cfg0 (adm m 0)).win 4).blk t).view _
      (fun x => pos_of (k := cc0_transform_4 (grid0.coords t) 0) (n' := (spec0 4).size 0) rfl (congrFun (tr4_eq t) 0)) one_inj _ G hG _ hX) n hn G h

/-- The true values after `n` blocks. -/
theorem arr5 (n : Nat) (hn : n ≤ 16) (G) (h : (rdats m O Rec 0 c).ArrAt 5 n G) :
    Front (fun j : S802816.Idx => (j 0).val) 50176 50000 (thOf (m (hLoc c))) n G :=
  arr_ind m O Rec c (w := 5) (flush5 m) (fun n G => Front (fun j : S802816.Idx => (j 0).val) 50176 50000 (thOf (m (hLoc c))) n G)
    (fun G => front_zero _ _ _ _ G)
    (fun t G X hG hX => front_write (((cfg0 (adm m 0)).win 5).blk t).view _
      (fun x => pos_of (k := cc0_transform_5 (grid0.coords t) 0) (n' := (spec0 5).size 0) rfl (congrFun (tr5_eq t) 0)) one_inj _ G hG _ hX) n hn G h

/-- All sixteen rows. -/
theorem good3 (G) (h : (rdats m O Rec 0 c).ArrAt 3 grid0.N G) : GoodR (m (pLoc c)) (m (bLoc c)) G := fun j hj =>
  arr3 m O Rec c 16 le_rfl G h j (show (j 0).val < 100352 * 16 from (j 0).isLt) hj

theorem good4 (G) (h : (rdats m O Rec 0 c).ArrAt 4 grid0.N G) : GoodX (m (xLoc c)) G := fun j hj =>
  arr4 m O Rec c 16 le_rfl G h j (show (j 0).val < 50176 * 16 from (j 0).isLt) hj

theorem good5 (G) (h : (rdats m O Rec 0 c).ArrAt 5 grid0.N G) : GoodH (m (hLoc c)) G := fun j hj =>
  arr5 m O Rec c 16 le_rfl G h j (show (j 0).val < 50176 * 16 from (j 0).isLt) hj

/-- The inputs are as launched. -/
theorem same0 (n G) (h : (rdats m O Rec 0 c).ArrAt 0 n G) : G = m (pLoc c) := by
  have e := Pipeline.RDat.ArrAt_in (rd := rdats m O Rec 0 c) 0 (in0 m) n
  exact (congrFun e G).mp h

theorem same1 (n G) (h : (rdats m O Rec 0 c).ArrAt 1 n G) : G = m (xLoc c) := by
  have e := Pipeline.RDat.ArrAt_in (rd := rdats m O Rec 0 c) 1 (in1 m) n
  exact (congrFun e G).mp h

theorem same2 (n G) (h : (rdats m O Rec 0 c).ArrAt 2 n G) : G = m (hLoc c) := by
  have e := Pipeline.RDat.ArrAt_in (rd := rdats m O Rec 0 c) 2 (in2 m) n
  exact (congrFun e G).mp h

end Found

end Cert.Proof.KI

end
-- ==== Proof.RegionI.lean ====
/- The preparation as one region of the program: at each grid point the body, from and to what its windows
   are said to hold; over the grid, the three arrays the SparseCore reads. -/
module

public import proofs.«01_k».proof.Proof.WinI
public import Idealize.ShloMosaic.Lib.Pipeline.Regions

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig (HIx 1) (Elt F) ℕ UU ℕ

variable (m : (ℓ : Loc nD τ sig) → Buf (Elt F) ℓ)

/-! ## What the body leaves, in the windows' terms -/

theorem col_coords : ∀ t : Fin grid0.N, (grid0.coords t 1).val = t.val % 8 := by decide

theorem ok3 (c : Dev nD) (t : Fin grid0.N) (X Z) (hX : Ok m c 0 t X) (h : PreR X (m (bLoc c)) (grid0.coords t) Z) : Ok m c 3 t Z := by
  intro j hj
  have e : X = m (pLoc c) := hX
  rw [h j hj, bat_coords, e]

/-- The block's row of the point's column is the batch's row. -/
theorem row_of_blk (t : Fin grid0.N) (n : Nat) :
    ixT (8 * (t.val / 8) + ((ix8 (grid0.coords t 1).val n) 0).val) ((ix8 (grid0.coords t 1).val n) 1).val = ixT t.val n := by
  have ht : t.val < 16 := t.isLt
  rw [col_coords]
  funext a
  refine Fin.ext ?_
  match a with
  | 0 => show (8 * (t.val / 8) + t.val % 8 % 8) % 16 = t.val % 16; omega
  | 1 => show n % 50000 % 50000 = n % 50000; omega

theorem ok4 (c : Dev nD) (t : Fin grid0.N) (X Z) (hX : Ok m c 1 t X) (h : PreX X (grid0.coords t) Z) : Ok m c 4 t Z := by
  intro j hj
  rw [h j hj, hX, row_of_blk]
  rfl

theorem ok5 (c : Dev nD) (t : Fin grid0.N) (X Z) (hX : Ok m c 2 t X) (h : PreX X (grid0.coords t) Z) : Ok m c 5 t Z := by
  intro j hj
  rw [h j hj, hX, row_of_blk]
  rfl

/-! ## The body obligation -/

section Obl

variable (O : Dev nD → CellTallies nD τ sig (HIx 1)) (Rec : Dev nD → Set (SemLoc sig × HIx 1))

theorem body_obl (hpre : PreOK m) (c : Dev nD) :
    (rdats m O Rec 0 c).BodyObligation (defs₀ (F := F)) 𝒱₀ none Set.univ := fun t Y hY => by
  have h0 := finds0 m O Rec c t _ (hY 0)
  have h1 := finds1 m O Rec c t _ (hY 1)
  have h2 := finds2 m O Rec c t _ (hY 2)
  have hw := prep_wp c (grid0.coords t) (spec0_0.stage (((cfg0 (adm m 0)).slots t) 0)) (hstage0_0 ((((cfg0 (adm m 0)).slots t) 0).cast nbuf0_0))
    (spec0_1.stage (((cfg0 (adm m 0)).slots t) 1)) (hstage0_1 ((((cfg0 (adm m 0)).slots t) 1).cast nbuf0_1))
    (spec0_2.stage (((cfg0 (adm m 0)).slots t) 2)) (hstage0_2 ((((cfg0 (adm m 0)).slots t) 2).cast nbuf0_2))
    (spec0_3.stage (((cfg0 (adm m 0)).slots t) 3)) (hstage0_3 ((((cfg0 (adm m 0)).slots t) 3).cast nbuf0_3))
    (spec0_4.stage (((cfg0 (adm m 0)).slots t) 4)) (hstage0_4 ((((cfg0 (adm m 0)).slots t) 4).cast nbuf0_4))
    (spec0_5.stage (((cfg0 (adm m 0)).slots t) 5)) (hstage0_5 ((((cfg0 (adm m 0)).slots t) 5).cast nbuf0_5))
    (m (bLoc c)) ((hpre c).1 _) (Y 0) (Y 1) (Y 2) (Y 3) (Y 4) (Y 5)
  rw [bigSep_W0, bigSep_W0, show (rdats m O Rec 0 c).Φ t.castSucc = iprop(bLoc c ↦{fullShare} m (bLoc c)) from rfl,
    show (rdats m O Rec 0 c).Φ t.succ = iprop(bLoc c ↦{fullShare} m (bLoc c)) from rfl]
  iintro ⟨HB, HO, H0, H1, H2, H3, H4, H5⟩
  iapply (wp_wand) $$ [HB H0 H1 H2 H3 H4 H5]
  · iapply hw
    isplitl [HB]; · iexact HB
    isplitl [H0]; · iexact H0
    isplitl [H1]; · iexact H1
    isplitl [H2]; · iexact H2
    isplitl [H3]; · iexact H3
    isplitl [H4]; · iexact H4
    iexact H5
  iintro %_ ⟨HB, H0, H1, H2, ⟨%Z3, %hZ3, H3⟩, ⟨%Z4, %hZ4, H4⟩, ⟨%Z5, %hZ5, H5⟩⟩
  isplitl [HB]; · iexact HB
  isplitl [HO]; · iexact HO
  isplitl [H0]; · iexists _; isplitr; rotate_left; · iexact H0
                  · ipureintro; exact h0
  isplitl [H1]; · iexists _; isplitr; rotate_left; · iexact H1
                  · ipureintro; exact h1
  isplitl [H2]; · iexists _; isplitr; rotate_left; · iexact H2
                  · ipureintro; exact h2
  isplitl [H3]; · iexists _; isplitr; rotate_left; · iexact H3
                  · ipureintro; exact ok3 m c t _ _ h0 hZ3
  isplitl [H4]; · iexists _; isplitr; rotate_left; · iexact H4
                  · ipureintro; exact ok4 m c t _ _ h1 hZ4
  iexists _; isplitr; rotate_left; · iexact H5
  ipureintro; exact ok5 m c t _ _ h2 hZ5

/-! ## The region -/

/-- An array whole at `f`, as the region's data states it. -/
theorem arr_pts (c : Dev nD) (w : Fin 6) (f : Buf (Elt F) (((cfg0 (adm m 0)).win w).arr.view.loc (T c))) :
    (((cfg0 (adm m 0)).win w).arr.view.loc (T c) ↦[((cfg0 (adm m 0)).win w).arr.view.set]{(rdats m O Rec 0 c).share w} f : sProp 𝕄)
      = (((cfg0 (adm m 0)).win w).arr.view.loc (T c) ↦{fullShare} f) := by
  rw [(rdats m O Rec 0 c).share_full (fun _ => rfl) w, (arr_whole0 w).set_eq_univ]

/-- The six arrays as launched. -/
theorem arrays_eq (c : Dev nD) : ((rdats m O Rec 0 c).arrays (rdats m O Rec 0 c).A : sProp 𝕄)
    = iprop((pLoc c ↦{fullShare} m (pLoc c)) ∗ (xLoc c ↦{fullShare} m (xLoc c)) ∗ (hLoc c ↦{fullShare} m (hLoc c))
      ∗ (rowsLoc c ↦{fullShare} m (rowsLoc c)) ∗ (tixLoc c ↦{fullShare} m (tixLoc c)) ∗ (thLoc c ↦{fullShare} m (thLoc c))) := by
  have e : ∀ w : Fin 6, (((cfg0 (adm m 0)).win w).arr.view.loc (T c) ↦[((cfg0 (adm m 0)).win w).arr.view.set]{(rdats m O Rec 0 c).share w} (rdats m O Rec 0 c).A w : sProp 𝕄)
      = (((cfg0 (adm m 0)).win w).arr.view.loc (T c) ↦{fullShare} m (((cfg0 (adm m 0)).win w).arr.view.loc (T c))) := fun w => arr_pts m O Rec c w _
  exact (BI.bigSep_congr fun w _ => e w).trans (bigSep_W0 fun w => ((cfg0 (adm m 0)).win w).arr.view.loc (T c) ↦{fullShare} m (((cfg0 (adm m 0)).win w).arr.view.loc (T c)))

/-- An input array after the run: as launched. -/
theorem arr_in (c : Dev nD) (w : Fin 6) (h : ∀ G, (rdats m O Rec 0 c).ArrAt w grid0.N G → G = m (((cfg0 (adm m 0)).win w).arr.view.loc (T c))) :
    iprop(∃ G, ⌜(rdats m O Rec 0 c).ArrAt w grid0.N G⌝
        ∗ ((cfg0 (adm m 0)).win w).arr.view.loc (T c) ↦[((cfg0 (adm m 0)).win w).arr.view.set]{(rdats m O Rec 0 c).share w} G)
      ⊢ (iprop(((cfg0 (adm m 0)).win w).arr.view.loc (T c) ↦{fullShare} m (((cfg0 (adm m 0)).win w).arr.view.loc (T c))) : sProp 𝕄) := by
  iintro ⟨%G, %hG, H⟩
  ihave H := (Entails.of_eq (arr_pts m O Rec c w G)) $$ H
  have e := h G hG
  subst e
  iexact H

/-- An output array after the run: at contents of which `P` holds. -/
theorem arr_out (c : Dev nD) (w : Fin 6) (P : Buf (Elt F) (((cfg0 (adm m 0)).win w).arr.view.loc (T c)) → Prop)
    (h : ∀ G, (rdats m O Rec 0 c).ArrAt w grid0.N G → P G) :
    iprop(∃ G, ⌜(rdats m O Rec 0 c).ArrAt w grid0.N G⌝
        ∗ ((cfg0 (adm m 0)).win w).arr.view.loc (T c) ↦[((cfg0 (adm m 0)).win w).arr.view.set]{(rdats m O Rec 0 c).share w} G)
      ⊢ (iprop(∃ G, ⌜P G⌝ ∗ ((cfg0 (adm m 0)).win w).arr.view.loc (T c) ↦{fullShare} G) : sProp 𝕄) := by
  iintro ⟨%G, %hG, H⟩
  ihave H := (Entails.of_eq (arr_pts m O Rec c w G)) $$ H
  iexists G
  isplitr; · ipureintro; exact h G hG
  iexact H

/-- The six arrays after the run: the arguments as launched, the three outputs prepared. -/
theorem arraysAt_post (c : Dev nD) : ((rdats m O Rec 0 c).arraysAt grid0.N : sProp 𝕄)
    ⊢ iprop((pLoc c ↦{fullShare} m (pLoc c)) ∗ (xLoc c ↦{fullShare} m (xLoc c)) ∗ (hLoc c ↦{fullShare} m (hLoc c))
      ∗ (∃ R : Buf (Elt F) (rowsLoc c), ⌜GoodR (m (pLoc c)) (m (bLoc c)) R⌝ ∗ rowsLoc c ↦{fullShare} R)
      ∗ (∃ X : Buf (Elt F) (tixLoc c), ⌜GoodX (m (xLoc c)) X⌝ ∗ tixLoc c ↦{fullShare} X)
      ∗ (∃ H : Buf (Elt F) (thLoc c), ⌜GoodH (m (hLoc c)) H⌝ ∗ thLoc c ↦{fullShare} H)) := by
  refine (Entails.of_eq (bigSep_W0 _)).trans ?_
  exact BIClass.sep_mono (arr_in m O Rec c 0 (same0 m O Rec c _)) (BIClass.sep_mono (arr_in m O Rec c 1 (same1 m O Rec c _))
    (BIClass.sep_mono (arr_in m O Rec c 2 (same2 m O Rec c _)) (BIClass.sep_mono (arr_out m O Rec c 3 _ (good3 m O Rec c))
      (BIClass.sep_mono (arr_out m O Rec c 4 _ (good4 m O Rec c)) (arr_out m O Rec c 5 _ (good5 m O Rec c))))))

/-- The table as the region's data states it. -/
theorem pref_eq (c : Dev nD) : (Pipeline.prefHeld pre0 c (fun _ => fullShare) (adm m 0).1 : sProp 𝕄) = iprop(bLoc c ↦{fullShare} m (bLoc c)) := by
  obtain rfl : c = 0 := Subsingleton.elim _ _
  exact BI.bigSep_univ_eq_bigSepL [(0 : Fin 1)] (by decide) (by decide) _

/-- What the TensorCore owes, and the pairs its past waits recorded. -/
def owing (c : Dev nD) : sProp 𝕄 :=
  iprop(∃ W, ⌜∀ p ∈ W, p ∈ Rec c⌝ ∗ owes (T c) (O c) W)

set_option backward.isDefEq.respectTransparency.types false in
/-- The preparation's region: entered with the arguments and the three arrays as launched, left with the
    arguments unchanged and the arrays prepared. -/
def reg (hpre : PreOK m) (L : GSem nD τ sig → Finset (HIx 1)) (lv : GSem nD τ sig → HIx 1 → ℕ)
    (hwt : ∀ (c : Dev nD) sm, (levAts L lv : sProp 𝕄) ⊢ MayWait (T c) sm none (O c)) (hrec : ∀ c sm, (sm, none) ∈ Rec c) :
    Pipeline.RDat.RegionSeg (pcfgs (F := F)) (adm m) (rdats m O Rec) none defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := body_obl m O Rec hpre c
  hwaits c := BI.bigSep_intro_persistent fun w _ => BI.bigSep_intro_persistent fun s _ => BI.bigSep_intro_persistent fun _ _ =>
    hwt c (.dma (((cfg0 (adm m 0)).win w).sem s))
  pre c := iprop((pLoc c ↦{fullShare} m (pLoc c)) ∗ (bLoc c ↦{fullShare} m (bLoc c)) ∗ (xLoc c ↦{fullShare} m (xLoc c)) ∗ (hLoc c ↦{fullShare} m (hLoc c))
    ∗ (rowsLoc c ↦{fullShare} m (rowsLoc c)) ∗ (tixLoc c ↦{fullShare} m (tixLoc c)) ∗ (thLoc c ↦{fullShare} m (thLoc c)) ∗ owing O Rec c)
  post c := iprop((pLoc c ↦{fullShare} m (pLoc c)) ∗ (bLoc c ↦{fullShare} m (bLoc c)) ∗ (xLoc c ↦{fullShare} m (xLoc c)) ∗ (hLoc c ↦{fullShare} m (hLoc c))
    ∗ srcPts m c fullShare ∗ owing O Rec c)
  X _ := BI.emp
  Y c := iprop(bLoc c ↦{fullShare} m (bLoc c))
  Z _ := BI.emp
  hentry c := by
    rw [Pipeline.ownSems0_none]
    unfold owing
    rw [arrays_eq]
    iintro ⟨⟨Hp, Hb, Hx, Hh, H3, H4, H5, ⟨%W, %hW, HO⟩⟩, -, -⟩
    imodintro
    isplitl [Hp Hx Hh H3 H4 H5]
    · isplitl [Hp]; · iexact Hp
      isplitl [Hx]; · iexact Hx
      isplitl [Hh]; · iexact Hh
      isplitl [H3]; · iexact H3
      isplitl [H4]; · iexact H4
      iexact H5
    isplitl [Hb]; · iapply (Entails.of_eq (pref_eq m c).symm); iexact Hb
    isplitl [HO]
    · unfold Pipeline.RDat.owesAt Pipeline.owesWithin
      iexists W; isplitr; rotate_left; · iexact HO
      ipureintro; exact fun p hp => .inl (hW p hp)
    isplitl <;> iempintro
  hin c := by
    rw [show (rdats m O Rec 0 c).Φ 0 = iprop(bLoc c ↦{fullShare} m (bLoc c)) from rfl]
    iintro ⟨-, Hb, -⟩
    iapply (Entails.of_eq (pref_eq m c)); iexact Hb
  hout c := by
    rw [Pipeline.ownSems0_none, show (rdats m O Rec 0 c).Φ (Fin.last grid0.N) = iprop(bLoc c ↦{fullShare} m (bLoc c)) from rfl]
    iintro Hb
    isplitl [Hb]; · iexact Hb
    isplitl; · iempintro
    iapply (Entails.of_eq (scopedRest0_eq c).symm); iempintro
  hexit c := by
    unfold owing srcPts
    iintro ⟨Ha, HO, Hb, -⟩
    ihave Ha := (arraysAt_post m O Rec c) $$ Ha
    icases Ha with ⟨Hp, Hx, Hh, ⟨%R, %hR, H3⟩, ⟨%X, %hX, H4⟩, ⟨%H, %hH, H5⟩⟩
    imodintro
    isplitl [Hp]; · iexact Hp
    isplitl [Hb]; · iexact Hb
    isplitl [Hx]; · iexact Hx
    isplitl [Hh]; · iexact Hh
    isplitl [H3 H4 H5]
    · iexists R; iexists X; iexists H
      isplitr; · ipureintro; exact ⟨hR, hX, hH⟩
      isplitl [H3]; · iexact H3
      isplitl [H4]; · iexact H4
      iexact H5
    unfold Pipeline.RDat.owesAt Pipeline.owesWithin
    icases HO with ⟨%W, %hW, HO⟩
    iexists W
    isplitr; rotate_left; · iexact HO
    ipureintro
    intro p hp
    rcases hW (Finset.mem_coe.2 hp) with h | ⟨w, s, rfl⟩
    · exact h
    · exact hrec c _

end Obl

end Cert.Proof.KI

end
-- ==== Proof.TaskI.lean ====
module

public import proofs.«01_k».proof.Proof.PayI

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig (HIx 1) (Elt F) ℕ UU ℕ

section Task

variable (d : Dev nD) (L : grid1.Coords)

/-! ## The tile's own semaphores and buffers -/

/-- The six semaphores of a tile and its six buffers, by number. -/
def semOf : Fin 6 → DmaSem sig :=
  ![cc1_scratch6.sem, cc1_scratch7.sem, cc1_scratch8.sem, cc1_scratch9.sem, cc1_scratch10.sem, cc1_scoped0.sem]
def bufOf : Fin 6 → Ref sig .scVector := ![cc1_scratch0, cc1_scratch1, cc1_scratch2, cc1_scratch3, cc1_scratch4, cc1_scratch5]

theorem semOf_inj : Function.Injective semOf := by decide
theorem bufOf_inj : Function.Injective bufOf := by decide
theorem semOf_scoped : ∀ k, (SemLoc.dma (semOf k) : SemLoc sig).isScoped .scVector = true := by decide

abbrev cellOf (k : Fin 6) : GSem nD τ sig := (thr d L, .dma (semOf k))
abbrev refOf (k : Fin 6) : DevRef τ sig := (tileProc L).devRef (bufOf k)

def cellsOf : Finset (GSem nD τ sig) := Finset.univ.image (cellOf d L)
def refsOf : Finset (DevRef τ sig) := Finset.univ.image (refOf L)

theorem cells_sub : cellsOf d L ⊆ ownCells (thr d L) := by
  intro g hg
  obtain ⟨k, -, rfl⟩ := Finset.mem_image.mp hg
  exact mem_ownCells.mpr ⟨rfl, semOf_scoped k⟩
theorem refs_sub : refsOf L ⊆ ownRefs (tileProc L) := by
  intro g hg
  obtain ⟨k, -, rfl⟩ := Finset.mem_image.mp hg
  refine SparseCore.Cfg.mem_ownRefs_of_owner (p := tileProc L) ?_
  fin_cases k <;> rfl

/-- They are among the tile's own: the six at zero, and the rest. -/
theorem ownSems0_tile :
    (ownSems0 (thr d L) : sProp 𝕄) = iprop(ownSems d L ∗ bigSep (ownCells (thr d L) \ cellsOf d L) fun g => semVal g 0) := by
  unfold SparseCore.Cfg.ownSems0
  rw [SparseCore.bigSep_sdiff_split' (cells_sub d L)]
  refine congrArg (fun A : sProp 𝕄 => iprop(A ∗ bigSep (ownCells (thr d L) \ cellsOf d L) fun g => semVal g 0)) ?_
  unfold cellsOf
  rw [SparseCore.bigSep_image_of_injOn (fun a _ b _ e => semOf_inj (SemLoc.dma.inj (Prod.mk.inj e).2)), bigSep_W0]
  rfl

/-- The six buffers at some contents, and the rest. -/
theorem ownBufs_tile :
    (ownBufs (thr d L) : sProp 𝕄) = iprop((iprop((∃ f, (thr d L).loc cc1_scratch0 ↦{fullShare} f) ∗ (∃ f, (thr d L).loc cc1_scratch1 ↦{fullShare} f)
        ∗ (∃ f, (thr d L).loc cc1_scratch2 ↦{fullShare} f) ∗ (∃ f, (thr d L).loc cc1_scratch3 ↦{fullShare} f)
        ∗ (∃ f, (thr d L).loc cc1_scratch4 ↦{fullShare} f) ∗ (∃ f, (thr d L).loc cc1_scratch5 ↦{fullShare} f)))
      ∗ bigSep (ownRefs (tileProc L) \ refsOf L) fun b => iprop(∃ f, ((d, b) : Loc nD τ sig) ↦{fullShare} f)) := by
  unfold SparseCore.Cfg.ownBufs
  refine (SparseCore.bigSep_sdiff_split' (refs_sub L)).trans ?_
  refine congrArg (fun A : sProp 𝕄 => iprop(A ∗ bigSep (ownRefs (tileProc L) \ refsOf L) fun b => iprop(∃ f, ((d, b) : Loc nD τ sig) ↦{fullShare} f))) ?_
  unfold refsOf
  rw [SparseCore.bigSep_image_of_injOn (fun a _ b _ e => bufOf_inj (Proc.devRef_injective _ e)), bigSep_W0]
  rfl

theorem scratch_in :
    (iprop((∃ f, (thr d L).loc cc1_scratch0 ↦{fullShare} f) ∗ (∃ f, (thr d L).loc cc1_scratch1 ↦{fullShare} f)
        ∗ (∃ f, (thr d L).loc cc1_scratch2 ↦{fullShare} f) ∗ (∃ f, (thr d L).loc cc1_scratch3 ↦{fullShare} f)
        ∗ (∃ f, (thr d L).loc cc1_scratch4 ↦{fullShare} f) ∗ (∃ f, (thr d L).loc cc1_scratch5 ↦{fullShare} f)) : sProp 𝕄) ⊢ ownScratch d L := by
  unfold ownScratch
  exact BIClass.sep_mono (holds_any d L rowB) (BIClass.sep_mono (holds_any d L ixA) (BIClass.sep_mono (holds_any d L thA) (BIClass.sep_mono (holds_any d L ixB)
    (BIClass.sep_mono (holds_any d L thB) (holds_any d L accB)))))

theorem any_holds {sp : Space} {s : Shape} {e : EltTy} (b : Memref sig .scVector sp s e) :
    (iprop(∃ G : s.Idx → Elt F e, Holds d L b G) : sProp 𝕄) ⊢ iprop(∃ f : Buf (Elt F) (b.view.loc (thr d L)), b.view.loc (thr d L) ↦[Finset.univ]{fullShare} f) := by
  iintro ⟨%G, H⟩
  iapply (any_of_holds d L b G)
  iexact H

theorem scratch_out :
    ownScratch d L ⊢ (iprop((∃ f, (thr d L).loc cc1_scratch0 ↦{fullShare} f) ∗ (∃ f, (thr d L).loc cc1_scratch1 ↦{fullShare} f)
        ∗ (∃ f, (thr d L).loc cc1_scratch2 ↦{fullShare} f) ∗ (∃ f, (thr d L).loc cc1_scratch3 ↦{fullShare} f)
        ∗ (∃ f, (thr d L).loc cc1_scratch4 ↦{fullShare} f) ∗ (∃ f, (thr d L).loc cc1_scratch5 ↦{fullShare} f)) : sProp 𝕄) := by
  unfold ownScratch
  exact BIClass.sep_mono (any_holds d L rowB) (BIClass.sep_mono (any_holds d L ixA) (BIClass.sep_mono (any_holds d L thA) (BIClass.sep_mono (any_holds d L ixB)
    (BIClass.sep_mono (any_holds d L thB) (any_holds d L accB)))))

/-! ## The task -/

variable (m : (ℓ : Loc nD τ sig) → Buf (Elt F) ℓ)

theorem src_four (q : PosShare TreeShare) (R : Buf (Elt F) (rowsLoc d)) (X : Buf (Elt F) (tixLoc d)) (H : Buf (Elt F) (thLoc d)) :
    (iprop((rowsLoc d ↦{q} R) ∗ (tixLoc d ↦{q} X) ∗ (thLoc d ↦{q} H)) : sProp 𝕄)
      ⊢ srcHeld d L q (fun r : Fin 4 => shareTokN q r.val) R X H := by
  unfold srcHeld
  have e4 : ∀ Φ : Fin 4 → sProp 𝕄, bigSep Finset.univ Φ = iprop(Φ 0 ∗ Φ 1 ∗ Φ 2 ∗ Φ 3) := fun Φ =>
    bigSep_univ_eq_bigSepL [(0 : Fin 4), (1 : Fin 4), (2 : Fin 4), (3 : Fin 4)] (by decide) (by decide) Φ
  iintro ⟨HR, HX, HH⟩
  ihave ⟨-, HX⟩ := (pointsTo_toks q 4).1 $$ HX
  ihave ⟨-, HH⟩ := (pointsTo_toks q 4).1 $$ HH
  ihave ⟨HX0, HX1, HX2, HX3⟩ := (Entails.of_eq (e4 _)) $$ HX
  ihave ⟨HH0, HH1, HH2, HH3⟩ := (Entails.of_eq (e4 _)) $$ HH
  isplitl [HR]; · iexact HR
  isplitl [HX0 HH0]; · isplitl [HX0]; · iexact HX0
                       iexact HH0
  isplitl [HX1 HH1]; · isplitl [HX1]; · iexact HX1
                       iexact HH1
  isplitl [HX2 HH2]; · isplitl [HX2]; · iexact HX2
                       iexact HH2
  isplitl [HX3]; · iexact HX3
  iexact HH3

/-- A tile's task: from its share of the arrays and its words of the result, the words at `resM`. -/
theorem tile_body (hpre : PreOK m) (O : CellTallies nD τ sig (HIx 1)) (W : Waits sig (HIx 1)) (hO : ∀ g, O g none = 0) :
    iprop(levAts (K (F := F)).L (K (F := F)).lev ∗ emp ∗ (srcPts m d (qt (L 0).val (L 1).val) ∗ (oLoc d ↦[outSet (L 0).val (L 1).val]{fullShare} m (oLoc d)))
        ∗ scopedBufs (thr d L) ∗ scopedSems0 (thr d L) ∗ owes (thr d L) O W) ⊢
      (wp frame (wpE (defs₀ (F := F)) 𝒱₀ (thr d L) none) Set.univ (tileBody (F := F) L) fun _ =>
        iprop((oLoc d ↦[outSet (L 0).val (L 1).val]{fullShare} resM m d) ∗ scopedBufs (thr d L) ∗ scopedSems0 (thr d L)
          ∗ ∃ W', ⌜∀ p ∈ W', p ∈ W ∨ p.2 = none⌝ ∗ owes (thr d L) O W') : sProp 𝕄) := by
  rw [(K (F := F)).scopedBufs_V facts d _ _, SparseCore.Cfg.scopedSems0_V (Val := Elt F) d _ _, ownSems0_tile, ownBufs_tile, tileBody_eq]
  unfold srcPts
  iintro ⟨#Hl, -, ⟨⟨%R, %X, %H, %hg, Hs⟩, Ho⟩, ⟨Hb, Hbr⟩, ⟨Hv, Hvr⟩, HO⟩
  ihave Hmw := ((K (F := F)).mayWaits_none (thr := thr d L) hO) $$ Hl
  ihave Hs := (src_four d L _ R X H) $$ Hs
  ihave Hb := (scratch_in d L) $$ Hb
  have hw := tile_wp (defs₀ (F := F)) d L (rowOf (m (pLoc d)) (m (bLoc d)) (L 1).val) (fun n => tixOf (m (xLoc d)) (L 1).val (25000 * (L 0).val + n))
    (fun n => thOf (m (hLoc d)) (L 1).val (25000 * (L 0).val + n)) (qt (L 0).val (L 1).val) (fun r : Fin 4 => shareTokN (qt (L 0).val (L 1).val) r.val)
    R X H (row_read L _ _ R hg.1) (ix_read L _ X hg.2.1) (th_read L _ H hg.2.2) (fun n _ => (hpre d).2 _) (m (oLoc d)) O W
  iapply (wp_wand) $$ [Hmw Hs Ho Hb Hv HO]
  · iapply hw
    isplitl [Hmw]; · iexact Hmw
    isplitl [Hs]; · iexact Hs
    isplitl [Ho]
    · unfold outHeld; rw [out_set]; iexact Ho
    isplitl [Hb]; · iexact Hb
    isplitl [Hv]; · iexact Hv
    iexact HO
  iintro %_ ⟨⟨%g, %hgv, Ho⟩, Hb, Hv, HO⟩
  isplitl [Ho]
  · rw [← pointsTo_congr (out_val L (m (pLoc d)) (m (bLoc d)) (m (xLoc d)) (m (hLoc d)) g hgv), ← out_set]
    unfold outHeld
    iexact Ho
  isplitl [Hb Hbr]
  · isplitl [Hb]
    · iapply (scratch_out d L); iexact Hb
    iexact Hbr
  isplitl [Hv Hvr]
  · isplitl [Hv]; · iexact Hv
    iexact Hvr
  iexact HO

end Task

/-! ## The launch theorem's obligation -/

variable (m : (ℓ : Loc nD τ sig) → Buf (Elt F) ℓ)

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 () = SparseCore.onTile hcore1 hsub1 (fun c s => tileBody (coordsV c s)) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hpre : PreOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact (tile_body d (coordsV ⟨_, hc.1⟩ ⟨_, hc.2⟩) m hpre O W hO).trans (wp_mono frame _ _ fun _ => obl_post)

end Cert.Proof.KI

end
-- ==== Proof.LaunchI.lean ====
/- The program's run: the TensorCore's part — the preparation's region, the SparseCore call, the host's sum and
   quotient —, and the launch. -/
module

public import proofs.«01_k».proof.Proof.RegionI
public import proofs.«01_k».proof.Proof.TaskI
public import Idealize.ShloMosaic.Lib.SparseCore.Quiescent
public import Idealize.ShloMosaic.Lib.StableHlo.Run

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx)
open Idealize.ShloMosaic.StableHlo (held wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig (HIx 1) (Elt F) ℕ UU ℕ

/-! ## The ghost state -/

/-- The handshakes' component, and the pipeline's. -/
abbrev EH : Emb UH (MT nD τ sig (HIx 1) (Elt F) ℕ UU ℕ) := embL
def EP : Emb UR₀ (MT nD τ sig (HIx 1) (Elt F) ℕ UU ℕ) := (Emb.inl : Emb UR₀ (UR₀ × Counters)).trans embR

instance EP_landsIn : (EP (F := F)).LandsIn (upEmb : UEmb _ (MT nD τ sig (HIx 1) (Elt F) ℕ UU ℕ)) := by
  unfold EP; infer_instance

variable (m : (ℓ : Loc nD τ sig) → Buf (Elt F) ℓ) (ρ : Dev nD → PrngReg)

/-- The launch element: the handshakes' cells and the pipeline's. -/
def u₀ : UU := (initOf (K (F := F)).hsCells (K (F := F)).hsToks,
  (initOf (Pipeline.cells (Pipeline.pin (pcfgs (F := F)) (adm m)) (cellOf_inj (adm m)))
    (Pipeline.launchToks (Pipeline.pin (pcfgs (F := F)) (adm m)) (cellOf_inj (adm m))), 1))

/-- The pipeline's ghost state on one device. -/
def G (d : Dev nD) : sProp 𝕄 :=
  iprop(Pipeline.cellsGhost (Pipeline.pin (pcfgs (F := F)) (adm m)) EP 0 d ∗ Pipeline.toksInit (Pipeline.pin (pcfgs (F := F)) (adm m)) EP 0 d)

theorem own_split (a : UH) (b : UR₀) (c : Counters) :
    (ownU ((a, (b, c)) : UU) : sProp 𝕄) ⊢ iprop(BI.own ((EH (F := F)) a) ∗ BI.own ((EP (F := F)) b)) :=
  (ownU_pair _ _).trans (BIClass.sep_mono (BI.Entails.refl _) ((own_pair_emb _ _ _).trans sep_elim_left))

theorem hu₀ : (ownU (u₀ m) : sProp 𝕄)
    ⊢ |={Set.univ}=> iprop(BI.own ((EH (F := F)) (initOf (K (F := F)).hsCells (K (F := F)).hsToks)) ∗ (bigSep Finset.univ fun d : Dev nD => G m d)
        ∗ bigSep Finset.univ fun thr : Thread nD τ => bigSep Finset.univ fun q : Fin 1 => (P m).x q thr) := by
  unfold u₀
  iintro Hu
  ihave H := (own_split _ _ _) $$ Hu
  icases H with ⟨HH, HP⟩
  imod (Pipeline.fund_ghost (Pipeline.pin (pcfgs (F := F)) (adm m)) (EP (F := F)) (cellOf_inj (adm m))) $$ HP with ⟨Hg, Ht⟩
  imodintro
  isplitl [HH]; · iexact HH
  isplitl [Hg Ht]
  · icombine Hg Ht as H
    have e : ∀ d : Dev nD, G m d = iprop((bigSep Finset.univ fun p => Pipeline.cellsGhost (Pipeline.pin (pcfgs (F := F)) (adm m)) (EP (F := F)) p d)
        ∗ bigSep Finset.univ fun p => Pipeline.toksInit (Pipeline.pin (pcfgs (F := F)) (adm m)) (EP (F := F)) p d) := fun d => by
      unfold G
      rw [bigSep_univ_of_subsingleton (0 : Fin 1), bigSep_univ_of_subsingleton (0 : Fin 1)]
    rw [bigSep_congr fun d _ => e d, bigSep_sep']
    iexact H
  unfold P; dsimp only
  have e : (bigSep Finset.univ fun _ : Thread nD τ => bigSep Finset.univ fun _ : Fin 1 => (BI.emp : sProp 𝕄)) = BI.emp := by
    rw [bigSep_congr fun _ _ => bigSep_emp_const _, bigSep_emp_const]
  iapply (Entails.of_eq e.symm)
  iempintro

/-! ## The region -/

/-- What the TensorCore owes the handshakes, and what it has been owed, before the call. -/
abbrev O₀ (d : Dev nD) : CellTallies nD τ sig (HIx 1) := (K (F := F)).Otc d 0
abbrev Rec₀ (d : Dev nD) : Set (SemLoc sig × HIx 1) := {p | (K (F := F)).lev (T d, p.1) p.2 ≤ 0}

theorem O₀_none (d : Dev nD) (g : GSem nD τ sig) : O₀ (F := F) d g none = 0 := by
  show (K (F := F)).Otc d 0 g none = 0
  rw [SparseCore.Cfg.Otc_zero]
  unfold SparseCore.Cfg.OtcAt
  rw [Finset.sum_apply, Finsupp.finsetSum_apply]
  refine Finset.sum_eq_zero fun q _ => ?_
  rw [Finset.sum_apply, Finsupp.finsetSum_apply]
  refine Finset.sum_eq_zero fun c _ => ?_
  rw [tallyAt_apply, if_neg (fun h => by cases h.2)]

/-- The preparation's region, the thread owing what it owes before the call. -/
def reg₀ (hpre : PreOK m) : Pipeline.RDat.RegionSeg (pcfgs (F := F)) (adm m) (rdats m (O₀ (F := F)) (Rec₀ (F := F))) none defs₀ 𝒱₀ (K (F := F)).L (K (F := F)).lev 0 :=
  reg m (O₀ (F := F)) (Rec₀ (F := F)) hpre (K (F := F)).L (K (F := F)).lev
    (fun c sm => (K (F := F)).mayWait_none sm (O₀_none c)) (fun c sm => by
      show (K (F := F)).lev (T c, sm) none ≤ _
      rw [SparseCore.Cfg.lev_none])

/-- The call of the preparation's pipeline, before the SparseCore calls' labels are added. -/
def enter : Prog (TpuEff nD τ sig (Elt F) (ΛP (F := F)) .tc) PUnit := .op (.customCall (Pipeline.entry 0) ()) .ret

theorem enter_eq : (Prog.lift (.customCall (SparseCore.inner (Pipeline.entry 0)) ()) : Prog (TpuEff nD τ sig (Elt F) (SparseCore.Sig (ΛP (F := F)) 1) .tc) PUnit)
    = SparseCore.liftProg (enter (F := F)) := rfl

theorem enter_wp (hpre : PreOK m) (d : Dev nD) (Q : PUnit → sProp 𝕄) :
    iprop(((boundary (T d) ∗ (reg₀ m hpre).post d) -∗ Q ⟨⟩) ∗ boundary (T d) ∗ (reg₀ m hpre).pre d ∗ levAts (K (F := F)).L (K (F := F)).lev ∗ G m d)
      ⊢ wp frame (wpE (D (F := F)) 𝒱 (T d) none) Set.univ (enter (F := F)) Q := by
  have h := ((reg₀ m hpre).wp (pcfgs (F := F)) (adm m) (rdats m (O₀ (F := F)) (Rec₀ (F := F))) none (cellOf_inj (adm m)) (EP (F := F)) defs₀ 𝒱₀ (K (F := F)).L (K (F := F)).lev d none
    (fun _ h => by cases h) .ret Q)
  refine BI.Entails.trans ?_ h
  unfold G
  show (_ : sProp 𝕄) ⊢ _
  iintro ⟨Hk, Hb, Hp, Hl, Hg, Ht⟩
  isplitl [Hk]
  · iintro H
    rw [wp_ret]
    imodintro
    iapply Hk $$ H
  isplitl [Hb]; · iexact Hb
  isplitl [Hp]; · iexact Hp
  isplitl [Hl]; · iexact Hl
  isplitl [Hg]; · iexact Hg
  iexact Ht

theorem region_wp (hpre : PreOK m) (d : Dev nD) (Q : PUnit → sProp 𝕄) :
    iprop(((boundary (T d) ∗ (reg₀ m hpre).post d) -∗ Q ⟨⟩) ∗ boundary (T d) ∗ (reg₀ m hpre).pre d ∗ levAts (K (F := F)).L (K (F := F)).lev ∗ G m d)
      ⊢ wp frame (wpE ((K (F := F)).defs (D (F := F))) 𝒱 (T d) none) Set.univ
          (SparseCore.liftProg (enter (F := F))) Q :=
  (enter_wp m hpre d Q).trans ((K (F := F)).wp_liftProg (D (F := F)) 𝒱 (T d) Set.univ none (enter (F := F)) Q)

/-! ## The TensorCore's program -/

abbrev v3Loc (d : Dev nD) : Loc nD τ sig := (SparseCore.T d).loc main_v3
abbrev r1 : DevRef τ sig := Proc.devRef .tc (main_v1 : Ref sig .tc)
abbrev rc : DevRef τ sig := Proc.devRef .tc (main_cst : Ref sig .tc)
abbrev r2 : DevRef τ sig := Proc.devRef .tc (main_v2 : Ref sig .tc)
abbrev rc0 : DevRef τ sig := Proc.devRef .tc (main_cst_0 : Ref sig .tc)
abbrev r3 : DevRef τ sig := Proc.devRef .tc (main_v3 : Ref sig .tc)
abbrev opZero : HloOp τ sig (Elt F) := StableHlo.nullary main_cst (constant S_ .f32 0x00000000#32)
abbrev opSum : HloOp τ sig (Elt F) := StableHlo.binary main_v1 main_cst main_v2 ((fun x v => Host.reduceAdd x v reducesTo_S512_S_d0 h_S_) : (⟨S512, .f32⟩ : BufTy).Contents (Elt F) → (⟨S_, .f32⟩ : BufTy).Contents (Elt F) → (⟨S_, .f32⟩ : BufTy).Contents (Elt F))
abbrev opCount : HloOp τ sig (Elt F) := StableHlo.nullary main_cst_0 (constant S_ .f32 0x49435000#32)
abbrev opQuot : HloOp τ sig (Elt F) := StableHlo.binary main_v2 main_cst_0 main_v3 (Host.divf : (⟨S_, .f32⟩ : BufTy).Contents (Elt F) → (⟨S_, .f32⟩ : BufTy).Contents (Elt F) → (⟨S_, .f32⟩ : BufTy).Contents (Elt F))

/-- The arrays the host's operations touch. -/
abbrev S5 : Finset (DevRef τ sig) := {r1, rc, r2, rc0, r3}

/-- The TensorCore's arrays: the arguments, the three prepared arrays, and the host operations' five. -/
theorem unscoped_eq (d : Dev nD) (V : Valuation τ sig (Elt F)) :
    (unscopedBufs d (fun b => V (Proc.devRef .tc b)) : sProp 𝕄) ⊢ iprop((pLoc d ↦{fullShare} V (Proc.devRef .tc main_arg0)) ∗ (bLoc d ↦{fullShare} V (Proc.devRef .tc main_arg1)) ∗ (xLoc d ↦{fullShare} V (Proc.devRef .tc main_arg2)) ∗ (hLoc d ↦{fullShare} V (Proc.devRef .tc main_arg3))
      ∗ (rowsLoc d ↦{fullShare} V (Proc.devRef .tc main_v0_0)) ∗ (tixLoc d ↦{fullShare} V (Proc.devRef .tc main_v0_1)) ∗ (thLoc d ↦{fullShare} V (Proc.devRef .tc main_v0_2))
      ∗ held (T d) S5 V) := by
  unfold unscopedBufs held S5
  rw [show (Finset.univ.filter fun b : Ref sig .tc => ¬ b.isScoped) = {main_arg0, main_arg1, main_arg2, main_arg3, main_v0_0, main_v0_1, main_v0_2, main_v1, main_cst, main_v2, main_cst_0, main_v3} by decide]
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton,
    SparseCore.bigSep_insert' (by decide), SparseCore.bigSep_insert' (by decide), SparseCore.bigSep_insert' (by decide), SparseCore.bigSep_insert' (by decide), bigSep_singleton]

/-- `held` over the five arrays, the result apart. -/
theorem held_S5 (d : Dev nD) (V : Valuation τ sig (Elt F)) :
    (held (T d) S5 V : sProp 𝕄) = iprop((oLoc d ↦{fullShare} V r1) ∗ held (T d) (S5 \ {r1}) V) := by
  unfold held
  rw [show S5 = insert r1 (S5 \ {r1}) by decide, SparseCore.bigSep_insert' (by decide)]
  rfl

/-- The launch contents; and with the tiles' words in the result of the call. -/
def V0 (d : Dev nD) : Valuation τ sig (Elt F) := fun b => m (d, b)
def V1 (d : Dev nD) : Valuation τ sig (Elt F) := Function.update (V0 m d) r1 (resM m d)

theorem V1_rest (d : Dev nD) : (held (T d) (S5 \ {r1}) (V0 m d) : sProp 𝕄) = held (T d) (S5 \ {r1}) (V1 m d) :=
  StableHlo.held_congr (T d) fun b hb => (Function.update_of_ne (fun e => (Finset.mem_sdiff.1 hb).2 (Finset.mem_singleton.2 e)) _ _).symm
theorem V1_r1 (d : Dev nD) : V1 m d r1 = resM m d := Function.update_self _ _ _

/-- What the program leaves in its result: the sum of the tiles' words over the number of pairs. -/
def outM (d : Dev nD) : Buf (Elt F) (v3Loc d) :=
  Host.divf (Host.reduceAdd (resM m d : FVec F S512 .f32) (constant S_ .f32 0x00000000#32) reducesTo_S512_S_d0 h_S_) (constant S_ .f32 0x49435000#32)

theorem out_eq (d : Dev nD) : (opQuot (F := F)).result ((opCount (F := F)).result ((opSum (F := F)).result ((opZero (F := F)).result (V1 m d)))) r3 = outM m d := by
  have e1 : ∀ V : Valuation τ sig (Elt F), (opCount (F := F)).result V r2 = V r2 := fun V => StableHlo.nullary_result_ne main_cst_0 _ _ V (r := main_v2) (by decide)
  have e2 : ∀ V : Valuation τ sig (Elt F), (opZero (F := F)).result V r1 = V r1 := fun V => StableHlo.nullary_result_ne main_cst _ _ V (r := main_v1) (by decide)
  refine (StableHlo.binary_result _ _ _ _ _ _ _ _).trans ?_
  refine congrArg₂ Host.divf ((e1 _).trans ((StableHlo.binary_result _ _ _ _ _ _ _ _).trans ?_)) (StableHlo.nullary_result _ _ _ _)
  exact congrArg₂ (fun x v => Host.reduceAdd x v reducesTo_S512_S_d0 h_S_) ((e2 _).trans (V1_r1 m d)) (StableHlo.nullary_result _ _ _ _)

theorem held_out (d : Dev nD) (V : Valuation τ sig (Elt F)) : (held (T d) S5 V : sProp 𝕄) ⊢ (v3Loc d ↦{fullShare} V r3) := by
  unfold held
  rw [show S5 = insert r3 (S5 \ {r3}) by decide, SparseCore.bigSep_insert' (by decide)]
  exact sep_elim_left

theorem hZero : (opZero (F := F)).bufs ⊆ S5 := show ({rc} : Finset (DevRef τ sig)) ⊆ S5 by decide
theorem hSum : (opSum (F := F)).bufs ⊆ S5 := show ({r1, rc, r2} : Finset (DevRef τ sig)) ⊆ S5 by decide
theorem hCount : (opCount (F := F)).bufs ⊆ S5 := show ({rc0} : Finset (DevRef τ sig)) ⊆ S5 by decide
theorem hQuot : (opQuot (F := F)).bufs ⊆ S5 := show ({r2, rc0, r3} : Finset (DevRef τ sig)) ⊆ S5 by decide

/-- What the TensorCore's program leaves the claim: the arguments as launched, and the result. -/
def FIN (d : Dev nD) : sProp 𝕄 :=
  iprop((pLoc d ↦{fullShare} m (pLoc d)) ∗ (bLoc d ↦{fullShare} m (bLoc d)) ∗ (xLoc d ↦{fullShare} m (xLoc d)) ∗ (hLoc d ↦{fullShare} m (hLoc d)) ∗ (v3Loc d ↦{fullShare} outM m d))

/-- What the call takes for the two SparseCores, and what it hands back. -/
theorem st_intro (d : Dev nD) : iprop(srcPts m d fullShare ∗ (oLoc d ↦{fullShare} m (oLoc d))) ⊢ (bigSep Finset.univ fun c : Fin ((K (F := F)).nCore 0) => (P m).st 0 d c : sProp 𝕄) := by
  show _ ⊢ (bigSep Finset.univ fun c : Fin 2 => iprop(srcPts m d (qc c.val) ∗ (oLoc d ↦[outHalf c.val]{fullShare} m (oLoc d))) : sProp 𝕄)
  rw [bigSep_sep', ← whole_pts]
  exact BIClass.sep_mono (src_split m d fullShare 2) (BI.Entails.refl _)
theorem dn_elim (d : Dev nD) : (bigSep Finset.univ fun c : Fin ((K (F := F)).nCore 0) => (P m).dn 0 d c : sProp 𝕄) ⊢ (oLoc d ↦{fullShare} resM m d) := by
  show (bigSep Finset.univ fun c : Fin 2 => oLoc d ↦[outHalf c.val]{fullShare} resM m d : sProp 𝕄) ⊢ _
  rw [← whole_pts]

/-- The thread's state before the call: what it owes, and the rest. -/
theorem tcSt_eq (d : Dev nD) : ∃ R : sProp 𝕄, (K (F := F)).tcSt EH d 0 = iprop(owing (O₀ (F := F)) (Rec₀ (F := F)) d ∗ R) := ⟨_, rfl⟩

theorem pre_intro (hpre : PreOK m) (d : Dev nD) :
    iprop((pLoc d ↦{fullShare} m (pLoc d)) ∗ (bLoc d ↦{fullShare} m (bLoc d)) ∗ (xLoc d ↦{fullShare} m (xLoc d)) ∗ (hLoc d ↦{fullShare} m (hLoc d))
      ∗ (rowsLoc d ↦{fullShare} m (rowsLoc d)) ∗ (tixLoc d ↦{fullShare} m (tixLoc d)) ∗ (thLoc d ↦{fullShare} m (thLoc d)) ∗ owing (O₀ (F := F)) (Rec₀ (F := F)) d)
      ⊢ ((reg₀ m hpre).pre d : sProp 𝕄) := BI.Entails.refl _
theorem post_elim (hpre : PreOK m) (d : Dev nD) :
    ((reg₀ m hpre).post d : sProp 𝕄) ⊢ iprop((pLoc d ↦{fullShare} m (pLoc d)) ∗ (bLoc d ↦{fullShare} m (bLoc d)) ∗ (xLoc d ↦{fullShare} m (xLoc d)) ∗ (hLoc d ↦{fullShare} m (hLoc d))
      ∗ srcPts m d fullShare ∗ owing (O₀ (F := F)) (Rec₀ (F := F)) d) := BI.Entails.refl _

theorem hmain (hpre : PreOK m) (κ : GSem nD τ sig → ℕ) (d : Dev nD) :
    iprop((K (F := F)).ctx EH (P m) κ ∗ (K (F := F)).tcSt EH d 0 ∗ (K (F := F)).tcRes m ρ d ∗ G m d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  simp only [main, wp_bind, wp_pure]
  rw [enter_eq, show (fun b : Ref sig .tc => m ((SparseCore.T d).loc b)) = fun b => V0 m d (Proc.devRef .tc b) from rfl]
  obtain ⟨R, hR⟩ := tcSt_eq (F := F) d
  iintro ⟨#Hctx, Hst, ⟨Hb, Hbufs, Hts, -⟩, Hg⟩
  ihave Hbufs := (unscoped_eq d (V0 m d)) $$ Hbufs
  icases Hbufs with ⟨Hp, Hbi, Hx, Hh, H3, H4, H5, Hheld⟩
  ihave Hst := (Entails.of_eq hR) $$ Hst
  icases Hst with ⟨HO, Hrest⟩
  -- the preparation
  iapply (region_wp m hpre d _)
  isplitr [Hb Hp Hbi Hx Hh H3 H4 H5 HO Hg]
  rotate_left
  · isplitl [Hb]; · iexact Hb
    isplitl [Hp Hbi Hx Hh H3 H4 H5 HO]
    · iapply (pre_intro m hpre d)
      isplitl [Hp]; · iexact Hp
      isplitl [Hbi]; · iexact Hbi
      isplitl [Hx]; · iexact Hx
      isplitl [Hh]; · iexact Hh
      isplitl [H3]; · iexact H3
      isplitl [H4]; · iexact H4
      isplitl [H5]; · iexact H5
      iexact HO
    isplitr
    · iapply (SparseCore.Cfg.ctx_levAts κ) $$ Hctx
    iexact Hg
  iintro ⟨Hb, Hpost⟩
  ihave Hpost := (post_elim m hpre d) $$ Hpost
  icases Hpost with ⟨Hp, Hbi, Hx, Hh, Hsrc, HO⟩
  ihave Hh5 := (Entails.of_eq (held_S5 d (V0 m d))) $$ Hheld
  icases Hh5 with ⟨Ho, Hheld⟩
  -- the call
  iapply ((K (F := F)).wp_run (D (F := F)) 𝒱 (EH := EH) (P := P m) κ d 0) $$ [HO Hrest Hsrc Ho Hb Hp Hbi Hx Hh Hheld Hts]
  isplitr; · iexact Hctx
  isplitl [HO Hrest]
  · iapply (Entails.of_eq hR.symm)
    isplitl [HO]; · iexact HO
    iexact Hrest
  isplitl [Hsrc Ho]
  · iapply (st_intro m d)
    isplitl [Hsrc]; · iexact Hsrc
    iexact Ho
  iintro ⟨Hst, Hdn⟩
  ihave Ho := (dn_elim m d) $$ Hdn
  ihave Hheld := (Entails.of_eq (V1_rest m d)) $$ Hheld
  -- the host's operations
  iapply (wp_hlo_within 𝒱 (SparseCore.T d) none Set.univ (op := opZero) (S := S5) hZero (V := V1 m d)) $$ [Hb Ho Hheld]
  · isplitl [Hb]; · iexact Hb
    iapply (Entails.of_eq (held_S5 d (V1 m d)).symm)
    isplitl [Ho]; · iapply (Entails.of_eq (congrArg (fun f => (oLoc d ↦{fullShare} f : sProp 𝕄)) (V1_r1 m d).symm)); iexact Ho
    iexact Hheld
  iintro ⟨Hb, Hheld⟩
  rw [wp_ret]; imodintro
  iapply (wp_hlo_within 𝒱 (SparseCore.T d) none Set.univ (op := opSum) (S := S5) hSum) $$ [Hb Hheld]
  · isplitl [Hb]; · iexact Hb
    iexact Hheld
  iintro ⟨Hb, Hheld⟩
  rw [wp_ret]; imodintro
  iapply (wp_hlo_within 𝒱 (SparseCore.T d) none Set.univ (op := opCount) (S := S5) hCount) $$ [Hb Hheld]
  · isplitl [Hb]; · iexact Hb
    iexact Hheld
  iintro ⟨Hb, Hheld⟩
  rw [wp_ret]; imodintro
  iapply (wp_hlo_within 𝒱 (SparseCore.T d) none Set.univ (op := opQuot) (S := S5) hQuot) $$ [Hb Hheld]
  · isplitl [Hb]; · iexact Hb
    iexact Hheld
  iintro ⟨Hb, Hheld⟩
  rw [wp_ret]; imodintro; imodintro
  ihave Hv := (held_out d _) $$ Hheld
  ihave Hv := (Entails.of_eq (congrArg (fun f => (v3Loc d ↦{fullShare} f : sProp 𝕄)) (out_eq m d))) $$ Hv
  isplitl [Hst]; · iexact Hst
  isplitr [Hb Hts]
  · unfold FIN
    isplitl [Hp]; · iexact Hp
    isplitl [Hbi]; · iexact Hbi
    isplitl [Hx]; · iexact Hx
    isplitl [Hh]; · iexact Hh
    iexact Hv
  isplitl [Hb] <;> iassumption

/-! ## The final memory -/

/-- The final memory of a device: the arguments as launched, the result at `outM`. -/
def fq (d : Dev nD) (s' : Phys nD τ sig (Elt F)) : Prop :=
  (s'.mem.mem (pLoc d) = m (pLoc d) ∧ s'.mem.mem (bLoc d) = m (bLoc d) ∧ s'.mem.mem (xLoc d) = m (xLoc d) ∧ s'.mem.mem (hLoc d) = m (hLoc d)) ∧ s'.mem.mem (v3Loc d) = outM m d

/-- A whole array held beside the state is the state's. -/
theorem held_agree (s' : Phys nD τ sig (Elt F)) (ℓ : Loc nD τ sig) (f : Buf (Elt F) ℓ) :
    iprop((ℓ ↦{fullShare} f) ∗ SI s') ⊢ (iprop(⌜s'.mem.mem ℓ = f⌝ ∗ SI s') : sProp 𝕄) := by
  iintro ⟨Hi, HSI⟩
  ihave H := (persistent_entails_right (SI_pointsTo_agree (st := s') (ℓ := ℓ) (I := Finset.univ) (q := fullShare) (f := f))) $$ [HSI Hi]
  · isplitl [HSI] <;> iassumption
  icases H with ⟨%h, HSI, -⟩
  isplitr; · ipureintro; exact funext fun i => h i (Finset.mem_univ i)
  iexact HSI

theorem hfin (d : Dev nD) (s' : Phys nD τ sig (Elt F)) : iprop(FIN m d ∗ SI s') ⊢ (⌜fq m d s'⌝ : sProp 𝕄) := by
  unfold FIN
  iintro ⟨⟨Hp, Hb, Hx, Hh, Hv⟩, HSI⟩
  ihave H := (held_agree s' _ _) $$ [HSI Hp]
  · isplitl [Hp] <;> iassumption
  icases H with ⟨%e1, HSI⟩
  ihave H := (held_agree s' _ _) $$ [HSI Hb]
  · isplitl [Hb] <;> iassumption
  icases H with ⟨%e2, HSI⟩
  ihave H := (held_agree s' _ _) $$ [HSI Hx]
  · isplitl [Hx] <;> iassumption
  icases H with ⟨%e3, HSI⟩
  ihave H := (held_agree s' _ _) $$ [HSI Hh]
  · isplitl [Hh] <;> iassumption
  icases H with ⟨%e4, HSI⟩
  ihave H := (held_agree s' _ _) $$ [HSI Hv]
  · isplitl [Hv] <;> iassumption
  icases H with ⟨%e5, -⟩
  ipureintro
  exact ⟨⟨e1, e2, e3, e4⟩, e5⟩

/-- What the run ends in: the arguments unchanged, the result at `outM`, every semaphore at zero. -/
def QC : PUnit × MemSt nD τ sig (Elt F) → Prop := fun r =>
  (∀ d : Dev nD, (r.2.mem (pLoc d) = m (pLoc d) ∧ r.2.mem (bLoc d) = m (bLoc d) ∧ r.2.mem (xLoc d) = m (xLoc d) ∧ r.2.mem (hLoc d) = m (hLoc d)) ∧ r.2.mem (v3Loc d) = outM m d)
    ∧ r.2.sem = fun _ => 0

/-- The program's run from a launch memory whose indices are in range. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hpre)
    (fun q _ => match q with | 0 => SparseCore.Cfg.VecSplit.of_plain (vecSplit m))
    m ρ main (G m) (FIN m) (u₀ m) (sep_elim_left.trans (hu₀ m)) (hmain m ρ hpre) (fq m) (hfin m) (QC m) (fun _ h hz => ⟨h, hz⟩)

end Cert.Proof.KI

end
-- ==== Proof.Range.lean ====
/- The precondition's ones, read: every batch row is below 16, every index below 100000. -/
module

public import proofs.«01_k».proof.Pre_in_range
public import proofs.«01_k».proof.Proof.Gen.Pre_in_range
public import Idealize.ShloMosaic.Lib.ReduceAll

@[expose] public section

noncomputable section

namespace Cert.Proof.Range

open Idealize.ShloMosaic Cert.Pre_in_range

/-- A bit below which a conjunction of two bits is one. -/
theorem both (a b : BitVec 1) (h : IntOp.andi a b = 1#1) : a = 1#1 ∧ b = 1#1 := by
  revert a b; decide

/-- A word at least zero and less than `n`, both signed, is less than `n`. -/
theorem lt_of_signed (w : BitVec 32) (n : ℕ) (hn : n < 2 ^ 31) (h0 : IntOp.cmpi .sge w 0#32 = 1#1) (h1 : IntOp.cmpi .slt w (BitVec.ofNat 32 n) = 1#1) : w.toNat < n := by
  have e0 : (0#32).toInt = 0 := rfl
  have h0 := IntOp.cmpi_sge.1 h0
  have h1 := IntOp.cmpi_slt.1 h1
  rw [e0, BitVec.toInt_eq_toNat_cond] at h0
  rw [BitVec.toInt_eq_toNat_cond, BitVec.toInt_eq_toNat_cond, BitVec.toNat_ofNat] at h1
  have := w.isLt
  rw [Nat.mod_eq_of_lt (by omega)] at h1
  split at h0 <;> split at h1 <;> split at h1 <;> omega

/-- Where the precondition is all ones, every batch row is below 16 and every index below 100000. -/
theorem of_pre {F : FTy → Type} [FloatOps F] (A : FVec F S16x100000 .f32) (B : IVec S16 32) (X : IVec S16x50000 32) (H : FVec F S16x50000 .f32)
    (h : fn A B X H = fun _ => 1#1) : (∀ j, (B j).toNat < 16) ∧ ∀ j, (X j).toNat < 100000 := by
  haveI : Subsingleton S_.Idx := ⟨fun a b => funext fun i => i.elim0⟩
  have e := congrFun h (fun i => i.elim0)
  unfold fn at e
  obtain ⟨e, e4⟩ := both _ _ e
  obtain ⟨e, e3⟩ := both _ _ e
  obtain ⟨e1, e2⟩ := both _ _ e
  exact ⟨fun j => lt_of_signed _ 16 (by decide) (Host.reduce_andi_all _ _ _ _ _ e1 j) (Host.reduce_andi_all _ _ _ _ _ e2 j),
    fun j => lt_of_signed _ 100000 (by decide) (Host.reduce_andi_all _ _ _ _ _ e3 j) (Host.reduce_andi_all _ _ _ _ _ e4 j)⟩

end Cert.Proof.Range

end
-- ==== Proof.Frames.lean ====
/- The frame claims: from indices in range the program ends, its arguments unchanged and every semaphore at zero,
   both as printed and over the extended reals; so does the reference. -/
module

public import proofs.«01_k».proof.Defs
public import proofs.«01_k».proof.Proof.LaunchP
public import proofs.«01_k».proof.Proof.LaunchI
public import proofs.«01_k».proof.Proof.Range
public import proofs.«01_k».proof.Proof.Gen.ReferenceIdeal.Run

@[expose] public section

noncomputable section

namespace Cert.Proof

open Idealize.ShloMosaic Idealize.SL.Sem

/-- The precondition, as the launch of the printed program asks it. -/
theorem preOK_P (m : (ℓ : Loc Cert.Kernel.nD Cert.Kernel.τ Cert.Kernel.sig) → Buf (Elt Bits) ℓ) (h : Cert.Pre_Kernel m) : KP.PreOK m :=
  fun d => Range.of_pre _ _ _ _ (h d)

/-- The precondition, as the launch of the program over the extended reals asks it. -/
theorem preOK_I (m : (ℓ : Loc Cert.KernelIdeal.nD Cert.KernelIdeal.τ Cert.KernelIdeal.sig) → Buf (Elt Ideal) ℓ) (h : Cert.Pre_KernelIdeal m) : KI.PreOK m :=
  fun d => Range.of_pre _ _ _ _ (h d)

/-- The printed program runs, its arguments unchanged, the machine quiescent. -/
theorem frame_P : Cert.quiescent_Kernel := fun m g h =>
  (θ_run Cert.Kernel.defs _ _).mono (fun _ hr => ⟨fun c => (hr.1 c).1, hr.2⟩) (KP.run_main (F := Bits) m g (preOK_P m h))

/-- So does the program over the extended reals. -/
theorem frame_I : Cert.quiescent_KernelIdeal := fun m g h =>
  (θ_run Cert.KernelIdeal.defs _ _).mono (fun _ hr => ⟨fun c => (hr.1 c).1, hr.2⟩) (KI.run_main (F := Ideal) m g (preOK_I m h))

/-- So does the reference, which has no semaphore. -/
theorem frame_R : Cert.quiescent_ReferenceIdeal := fun m g _ =>
  (θ_run Cert.ReferenceIdeal.defs _ _).mono (fun r hr => ⟨fun c => (hr c).2, sem_eq_zero_of_no_sems (by decide) r.2⟩)
    (Cert.ReferenceIdeal.Value.run (F := Ideal) m g)

/-- In particular from indices in range. -/
theorem frame_R_pre : Cert.quiescent_ReferenceIdeal_pre_in_range := fun m g _ => frame_R m g trivial

end Cert.Proof

end
-- ==== Proof.Segments.lean ====
/- Sums over consecutive positions: how they join, and how a sum over blocks is one sum. -/
module

public import Mathlib.Algebra.BigOperators.Fin
public import Mathlib.Algebra.BigOperators.Intervals

@[expose] public section

namespace Cert.Proof.Seg

variable {M : Type} [AddCommMonoid M] (f : ℕ → M)

/-- The sum of `f` over the `k` positions from `n`. -/
def seg (n k : ℕ) : M := ∑ i ∈ Finset.range k, f (n + i)

/-- Two runs of positions, one after the other, are one. -/
theorem join (n a b : ℕ) : seg f n a + seg f (n + a) b = seg f n (a + b) := by
  unfold seg
  rw [Finset.sum_range_add]
  simp only [Nat.add_assoc]

/-- Blocks of `m` positions, summed one block at a time, are all the positions. -/
theorem blocks (m : ℕ) : ∀ n, ∑ i ∈ Finset.range n, seg f (m * i) m = seg f 0 (m * n)
  | 0 => by simp [seg]
  | n + 1 => by
    rw [Finset.sum_range_succ, blocks m n, Nat.mul_succ]
    have := join f 0 (m * n) m
    rwa [Nat.zero_add] at this

/-- A sum over the numbers below `k`, as members of the finite type. -/
theorem of_fin (n k : ℕ) : ∑ i : Fin k, f (n + i.val) = seg f n k :=
  Fin.sum_univ_eq_sum_range (fun i => f (n + i)) k

/-- From position zero. -/
theorem of_fin_zero (k : ℕ) : ∑ i : Fin k, f i.val = seg f 0 k := by
  rw [← of_fin]; simp only [Nat.zero_add]

/-- A shifted summand is a shifted run. -/
theorem shift (m n k : ℕ) : seg (fun i => f (m + i)) n k = seg f (m + n) k := by
  unfold seg; simp only [Nat.add_assoc]

/-- Summands that agree below the run's end give the same sum. -/
theorem congr {f g : ℕ → M} (n k : ℕ) (h : ∀ i < k, f (n + i) = g (n + i)) : seg f n k = seg g n k :=
  Finset.sum_congr rfl fun i hi => h i (Finset.mem_range.1 hi)

end Cert.Proof.Seg

end
-- ==== Proof.SumI.lean ====
/- What a tile's lane sums add up to, over the extended reals: the squared differences of its 25000 positions. -/
module

public import proofs.«01_k».proof.Proof.LoopI
public import proofs.«01_k».proof.Proof.Segments
public import Idealize.ShloMosaic.Lib.ValueIdx
public import Idealize.ShloMosaic.PureOps.Ideal.Laws

@[expose] public section

noncomputable section

namespace Cert.Proof.KI

open Cert.KernelIdeal Cert.KernelIdeal.Gen
open Idealize.ShloMosaic Idealize.ShloMosaic.ValueIdx
open Cert.Proof.Seg

/-- The sum of a vector's sixteen lanes. -/
def lanes (v : FVec Ideal S16 .f32) : EReal := ∑ l : Fin 16, v (ix1 l)

/-- The sum of two vectors, lane by lane. -/
theorem lanes_add (v w : FVec Ideal S16 .f32) : lanes (addf v w) = lanes v + lanes w := by
  show (∑ l : Fin 16, (v (ix1 l) + w (ix1 l) : EReal)) = _
  exact Finset.sum_add_distrib

/-- The vector of zeros. -/
theorem lanes_zero : lanes (zeroV : FVec Ideal S16 .f32) = 0 := by
  refine Finset.sum_eq_zero fun l _ => ?_
  show Ideal.ofBits .f32 0x00000000#32 = 0
  exact Ideal.ofBits_zero_f32

/-- What eight vectors hold in all. -/
def tot (a : Acc Ideal) : EReal := lanes (sumAcc a)

/-- Vector by vector. -/
theorem tot_eq (a : Acc Ideal) : tot a = lanes a.1 + lanes a.2.1 + lanes a.2.2.1 + lanes a.2.2.2.1 + lanes a.2.2.2.2.1
    + lanes a.2.2.2.2.2.1 + lanes a.2.2.2.2.2.2.1 + lanes a.2.2.2.2.2.2.2 := by
  unfold tot sumAcc
  simp only [lanes_add]

theorem tot_zero : tot (zeroAcc : Acc Ideal) = 0 := by
  rw [tot_eq]; unfold zeroAcc; simp only [lanes_zero, add_zero]

/-- Lane `l` of the mask: zero below lane eight, one from there. -/
theorem mask_apply (l : Fin 16) : (maskV : FVec Ideal S16 .f32) (ix1 l) = if l.val < 8 then (0 : EReal) else 1 := by
  have e : ∀ l : Fin 16, (BitVec.toInt (BitVec.setWidth 32 (IntOp.cmpi .sge (BitVec.ofNat 32 (0 * 16 + l.val)) 8#32))) = if l.val < 8 then 0 else 1 := by
    decide
  have h : (maskV : FVec Ideal S16 .f32) (ix1 l)
      = (((BitVec.toInt (BitVec.setWidth 32 (IntOp.cmpi .sge (BitVec.ofNat 32 (0 * 16 + l.val)) 8#32)) : ℤ) : ℝ) : EReal) := rfl
  rw [h, e l]
  split <;> simp

section

variable (ROW : ℕ → EReal) (TX : ℕ → BitVec 32) (TH : ℕ → EReal)

/-- The squared difference at position `n`. -/
def sqAt (n : ℕ) : EReal := (ROW (TX n).toNat - TH n) * (ROW (TX n).toNat - TH n)

/-- A unit's lanes are sixteen positions. -/
theorem lanes_unit (n : ℕ) : lanes (unitV (F := Ideal) ROW TX TH n) = seg (sqAt ROW TX TH) n 16 := of_fin (sqAt ROW TX TH) n 16

/-- Under the mask, only the upper eight count. -/
theorem lanes_masked (n : ℕ) : lanes (mulf (unitV (F := Ideal) ROW TX TH n) maskV) = seg (sqAt ROW TX TH) (n + 8) 8 := by
  have h : lanes (mulf (unitV (F := Ideal) ROW TX TH n) maskV)
      = ∑ l : Fin 16, (fun i => sqAt ROW TX TH (n + i) * (if i < 8 then (0 : EReal) else 1)) l.val :=
    Finset.sum_congr rfl fun l _ => congrArg (fun z : EReal => sqAt ROW TX TH (n + l.val) * z) (mask_apply l)
  rw [h, of_fin_zero (fun i => sqAt ROW TX TH (n + i) * (if i < 8 then (0 : EReal) else 1)) 16, show (16 : ℕ) = 8 + 8 from rfl, ← join]
  have e0 : seg (fun i => sqAt ROW TX TH (n + i) * (if i < 8 then (0 : EReal) else 1)) 0 8 = 0 := by
    refine Finset.sum_eq_zero fun i hi => ?_
    have := Finset.mem_range.1 hi
    show sqAt ROW TX TH (n + (0 + i)) * (if 0 + i < 8 then (0 : EReal) else 1) = 0
    rw [if_pos (by omega), mul_zero]
  have e1 : seg (fun i => sqAt ROW TX TH (n + i) * (if i < 8 then (0 : EReal) else 1)) (0 + 8) 8 = seg (sqAt ROW TX TH) (n + 8) 8 := by
    refine Finset.sum_congr rfl fun i _ => ?_
    show sqAt ROW TX TH (n + (0 + 8 + i)) * (if 0 + 8 + i < 8 then (0 : EReal) else 1) = sqAt ROW TX TH (n + 8 + i)
    rw [if_neg (by omega), mul_one]
    congr 1; omega
  rw [e0, e1, zero_add]

/-- A trip adds 128 positions; -/
theorem tot_trip (n : ℕ) (a : Acc Ideal) : tot (tripV ROW TX TH n a) = tot a + seg (sqAt ROW TX TH) n 128 := by
  rw [← show seg (sqAt ROW TX TH) n (16 * 8) = seg (sqAt ROW TX TH) n 128 from rfl]
  have e : seg (sqAt ROW TX TH) n (16 * 8) = ∑ i ∈ Finset.range 8, seg (sqAt ROW TX TH) (n + 16 * i) 16 := by
    have := blocks (fun i => sqAt ROW TX TH (n + i)) 16 8
    simp only [shift, Nat.add_zero] at this
    exact this.symm
  rw [e, tot_eq, tot_eq]
  simp only [tripV, lanes_add, lanes_unit, Finset.sum_range_succ, Finset.sum_range_zero]
  rw [zero_add]
  ac_rfl

/-- `k` trips add `128 k`. -/
theorem tot_loop (n : ℕ) (a : Acc Ideal) : ∀ k, tot (loopV ROW TX TH n k a) = tot a + seg (sqAt ROW TX TH) n (128 * k)
  | 0 => by simp [loopV, seg]
  | k + 1 => by
    show tot (tripV ROW TX TH (n + 128 * k) (loopV ROW TX TH n k a)) = _
    rw [tot_trip, tot_loop n a k, add_assoc, join, Nat.mul_succ]

/-- The three units before the last loop add the positions from 18816 to 18856. -/
theorem tot_tail (a : Acc Ideal) :
    tot (tailAcc a (unitV (F := Ideal) ROW TX TH 18808) (unitV ROW TX TH 18824) (unitV ROW TX TH 18840))
      = tot a + seg (sqAt ROW TX TH) 18816 40 := by
  have e : seg (sqAt ROW TX TH) 18816 40
      = seg (sqAt ROW TX TH) 18816 8 + seg (sqAt ROW TX TH) 18824 16 + seg (sqAt ROW TX TH) 18840 16 := by
    rw [show (18824 : ℕ) = 18816 + 8 from rfl, join, show (18840 : ℕ) = 18816 + (8 + 16) from rfl, join]
  have m : lanes (mulf (unitV (F := Ideal) ROW TX TH 18808) maskV) = seg (sqAt ROW TX TH) 18816 8 := lanes_masked ROW TX TH 18808
  rw [e, tot_eq, tot_eq]
  simp only [tailAcc, lanes_add, m, lanes_unit]
  ac_rfl

/-- A tile's lanes add up to the squared differences of all its positions. -/
theorem lanes_tile : lanes (tileV (F := Ideal) ROW TX TH) = seg (sqAt ROW TX TH) 0 25000 := by
  show tot (loopV ROW TX TH 18856 48 _) = _
  rw [tot_loop, tot_tail]
  unfold chunksV
  rw [tot_loop, tot_loop, tot_loop, tot_zero, zero_add]
  have j := join (sqAt ROW TX TH) 0
  simp only [Nat.zero_add] at j
  rw [show (128 * 49 : ℕ) = 6272 from rfl, show (128 * 48 : ℕ) = 6144 from rfl, j, j 12544, j 18816, j 18856]

end

end Cert.Proof.KI

end
-- ==== Proof.TotalI.lean ====
/- What the kernel's 512 partial sums add up to, over the extended reals: every squared difference of every batch. -/
module

public import proofs.«01_k».proof.Proof.SumI
public import proofs.«01_k».proof.Proof.DataI
public import Idealize.ShloMosaic.Lib.Pointwise.Reduce

@[expose] public section

noncomputable section

namespace Cert.Proof.KI

open Cert.KernelIdeal Cert.KernelIdeal.Gen
open Idealize.ShloMosaic
open Cert.Proof.Seg

section

variable (A : S16x100000.Idx → EReal) (B : S16.Idx → BitVec 32) (X : S16x50000.Idx → BitVec 32) (H : S16x50000.Idx → EReal)

/-- The squared difference at position `n` of batch `s`. -/
def sqP (s n : ℕ) : EReal := sqAt (rowOf (F := Ideal) A B s) (tixOf X s) (thOf (F := Ideal) H s) n

/-- All of them, added up. -/
def total : EReal := ∑ s ∈ Finset.range 16, seg (sqP A B X H s) 0 50000

/-- Half `c` of batch `s`: the squared differences of its 25000 positions. -/
theorem lanes_part (s c : ℕ) : lanes (partV (F := Ideal) A B X H s c) = seg (sqP A B X H s) (25000 * c) 25000 := by
  unfold partV
  rw [lanes_tile]
  exact shift (sqP A B X H s) (25000 * c) 0 25000

/-- Word `k` of the result, by its number. -/
def resAt (k : ℕ) : EReal := partV (F := Ideal) A B X H (k / 32) (k / 16 % 2) (ixL k)

/-- The sixteen words of half `c` of batch `s`. -/
theorem seg_res (s c : ℕ) (hc : c < 2) : seg (resAt A B X H) (32 * s + 16 * c) 16 = lanes (partV (F := Ideal) A B X H s c) := by
  rw [← of_fin]
  refine Finset.sum_congr rfl fun l _ => ?_
  have hl := l.isLt
  have e : ixL (32 * s + 16 * c + l.val) = ValueIdx.ix1 l := by
    funext a
    match a with
    | ⟨0, _⟩ => exact Fin.ext (show (32 * s + 16 * c + l.val) % 16 = l.val by omega)
  unfold resAt
  rw [e, show (32 * s + 16 * c + l.val) / 32 = s by omega, show (32 * s + 16 * c + l.val) / 16 % 2 = c by omega]

/-- The sum of the 512 words is the sum of all squared differences. -/
theorem res_sum : ∑ k : Fin 512, resV (F := Ideal) A B X H (ix1 k) = total A B X H := by
  show ∑ k : Fin 512, resAt A B X H k.val = _
  rw [of_fin_zero, show (512 : ℕ) = 32 * 16 from rfl, ← blocks]
  refine Finset.sum_congr rfl fun s _ => ?_
  have h0 := seg_res A B X H s 0 (by decide)
  have h1 := seg_res A B X H s 1 (by decide)
  rw [lanes_part] at h0 h1
  have j := join (sqP A B X H s) 0 25000 25000
  rw [show (32 : ℕ) = 16 + 16 from rfl, ← join, show (16 + 16 : ℕ) = 32 from rfl]
  simp only [Nat.mul_zero, Nat.add_zero] at h0
  simp only [Nat.mul_one] at h1
  simp only [Nat.zero_add] at j
  rw [h0, h1, j]

/-- So the host's sum over them is that. -/
theorem host_sum : Host.reduceAdd (resV (F := Ideal) A B X H : FVec Ideal S512 .f32) (constant S_ .f32 0x00000000#32)
    reducesTo_S512_S_d0 h_S_ = fun _ => total A B X H := by
  funext j
  refine (Ideal.hostReduceAdd_r1_a0 (n0 := 512) reducesTo_S512_S_d0 _ _ j).trans ?_
  rw [res_sum]
  show Ideal.ofBits .f32 0x00000000#32 + _ = _
  rw [Ideal.ofBits_zero_f32, zero_add]

end

end Cert.Proof.KI

end
-- ==== Proof.PairTake.lean ====
/- An array with two axes, gathered at a pair of start indices for each place. -/
module

public import Idealize.ShloMosaic.Lib.ValueIdxCore

@[expose] public section

noncomputable section

namespace Cert.Proof.Take

open Idealize.ShloMosaic Idealize.ShloMosaic.ValueIdx

variable {α : Type} {N M R C : Nat}

/-- The dimension numbers of `x[i, j]` at two integer arrays of shape `[R, C]`, packed into one of shape `[R, C, 2]`. -/
abbrev pairDims (N M R C : Nat) (wf : GatherDims.WF ⟨2, ![N, M]⟩ ⟨3, ![R, C, 2]⟩ ⟨2, ![R, C]⟩ [] [0, 1] [] [0, 1] [] 2 ![1, 1]) :
    GatherDims ⟨2, ![N, M]⟩ ⟨3, ![R, C, 2]⟩ ⟨2, ![R, C]⟩ where
  offsetDims := []
  collapsedSliceDims := [0, 1]
  operandBatchingDims := []
  startIndicesBatchingDims := []
  startIndexMap := [0, 1]
  indexVectorDim := 2
  sliceSizes := ![1, 1]
  wf := wf

/-- Component `k` of the pair for place `y`. -/
abbrev pairIdx (y : (⟨2, ![R, C]⟩ : Shape).Idx) (k : Fin 2) : (⟨3, ![R, C, 2]⟩ : Shape).Idx :=
  fun a => match a with | ⟨0, _⟩ => ⟨(y 0).val, idx2_lt0 y⟩ | ⟨1, _⟩ => ⟨(y 1).val, idx2_lt1 y⟩ | ⟨2, _⟩ => k

variable (wf : GatherDims.WF ⟨2, ![N, M]⟩ ⟨3, ![R, C, 2]⟩ ⟨2, ![R, C]⟩ [] [0, 1] [] [0, 1] [] 2 ![1, 1])

/-- Where component `k` of the start index is read. -/
theorem pair_siIdx (y : (⟨2, ![R, C]⟩ : Shape).Idx) (k : Fin 2) : (pairDims N M R C wf).siIdx y k = pairIdx y k := by
  funext b
  refine Fin.ext ?_
  match b with
  | ⟨0, _⟩ => rfl
  | ⟨1, _⟩ => rfl
  | ⟨2, _⟩ => rfl

/-- The coordinate the gather reads on axis `a`: the start index's component there, signed, kept within the axis. -/
theorem pair_coord {w : Nat} (idx : IVec ⟨3, ![R, C, 2]⟩ w) (y : (⟨2, ![R, C]⟩ : Shape).Idx) (a : Fin 2) :
    ((pairDims N M R C wf).operandIdx y idx a).val = min (idx (pairIdx y a)).toInt.toNat (![N, M] a - 1) := by
  have hm : a ∈ (pairDims N M R C wf).startIndexMap := by
    match a with
    | ⟨0, _⟩ => exact List.mem_cons_self
    | ⟨1, _⟩ => exact List.mem_cons_of_mem _ List.mem_cons_self
  show (pairDims N M R C wf).start y idx a + (pairDims N M R C wf).batchCoord y a + (pairDims N M R C wf).offCoord y a = _
  rw [GatherDims.batchCoord_eq_zero _ _ _ List.not_mem_nil,
    GatherDims.offCoord_eq_zero _ _ _ (fun h => ((GatherDims.mem_sKept _ _).mp h).1 hm)]
  unfold GatherDims.start
  rw [dif_pos hm]
  match a with
  | ⟨0, _⟩ => exact congrArg (fun i => min (idx i).toInt.toNat (N - 1)) (pair_siIdx wf y 0)
  | ⟨1, _⟩ => exact congrArg (fun i => min (idx i).toInt.toNat (M - 1)) (pair_siIdx wf y 1)

/-- Where both components lie within their axes, the gather reads the element they name. -/
theorem pair_apply {w : Nat} (x : (⟨2, ![N, M]⟩ : Shape).Idx → α) (idx : IVec ⟨3, ![R, C, 2]⟩ w) (y : (⟨2, ![R, C]⟩ : Shape).Idx)
    (p : Fin N) (q : Fin M) (hp : (idx (pairIdx y 0)).toInt = p.val) (hq : (idx (pairIdx y 1)).toInt = q.val) :
    Host.gather (pairDims N M R C wf) x idx y = x (ix2 p q) := by
  unfold Host.gather
  congr 1
  funext a
  refine Fin.ext ?_
  match a with
  | ⟨0, _⟩ =>
    refine (pair_coord wf idx y 0).trans ?_
    rw [hp]
    have := p.isLt
    show min (Int.toNat p.val) (N - 1) = p.val
    omega
  | ⟨1, _⟩ =>
    refine (pair_coord wf idx y 1).trans ?_
    rw [hq]
    have := q.isLt
    show min (Int.toNat q.val) (M - 1) = q.val
    omega

end Cert.Proof.Take

end
-- ==== Proof.RefValue.lean ====
/- What the reference computes, over the extended reals: the same sum of squared differences. -/
module

public import proofs.«01_k».proof.Proof.TotalI
public import proofs.«01_k».proof.Proof.PairTake
public import proofs.«01_k».proof.Proof.Gen.ReferenceIdeal
public import Idealize.ShloMosaic.Lib.Pipeline.Value

@[expose] public section

noncomputable section

namespace Cert.Proof.RI

open Cert.ReferenceIdeal Cert.ReferenceIdeal.Gen
open Idealize.ShloMosaic
open Cert.Proof.Seg

/-! ## The indices the reference gathers at -/

/-- An index that is not negative stays as it is when negative ones count from the end; read signed, it is its value. -/
theorem wrap_word (w n : BitVec 32) (h : w.toNat < 2 ^ 31) :
    Scalar.select (IntOp.cmpi .slt w 0#32) (IntOp.addi w n) w = w ∧ w.toInt = w.toNat := by
  have e : w.toInt = w.toNat := by
    rw [BitVec.toInt_eq_toNat_cond, if_pos (by omega)]
  refine ⟨?_, e⟩
  have hc : IntOp.cmpi .slt w 0#32 = 0#1 := by
    refine ValueIdx.eq_zero_of_ne_one fun h1 => ?_
    have h2 := IntOp.cmpi_slt.1 h1
    rw [e, show (0#32).toInt = 0 from rfl] at h2
    omega
  rw [hc]
  rfl

section

variable (B : IVec S16 32) (X : IVec S16x50000 32)

/-- The batch rows, negative ones counted from the end, as a column. -/
def rows : IVec S16x1 32 :=
  select (cmpi .slt (broadcastInDim S16x1 ![0] bcast_S16_S16x1_0 B) (broadcastInDim S16x1 ![] bcast_S_S16x1 (constantI S_ 32 0#32)))
    (addi (broadcastInDim S16x1 ![0] bcast_S16_S16x1_0 B) (broadcastInDim S16x1 ![] bcast_S_S16x1 (constantI S_ 32 16#32)))
    (broadcastInDim S16x1 ![0] bcast_S16_S16x1_0 B)

/-- The column indices, negative ones counted from the end. -/
def cols : IVec S16x50000 32 :=
  select (cmpi .slt X (broadcastInDim S16x50000 ![] bcast_S_S16x50000 (constantI S_ 32 0#32)))
    (addi X (broadcastInDim S16x50000 ![] bcast_S_S16x50000 (constantI S_ 32 100000#32))) X

/-- Both, a pair for each place. -/
def pairs : IVec S16x50000x2 32 :=
  concatenate S16x50000x2 2 [⟨S16x50000x1, broadcastInDim S16x50000x1 ![0, 1] bcast_S16x50000_S16x50000x1_0_1
      (broadcastInDim S16x50000 ![0, 1] bcast_S16x1_S16x50000_0_1 (rows B))⟩,
    ⟨S16x50000x1, broadcastInDim S16x50000x1 ![0, 1] bcast_S16x50000_S16x50000x1_0_1 (cols X)⟩]
    concatenates_S16x50000x1_S16x50000x1_S16x50000x2_d2

variable (hB : ∀ j, (B j).toNat < 16) (hX : ∀ j, (X j).toNat < 100000)

/-- The place `y` with a third coordinate, the only one. -/
abbrev at1 (y : S16x50000.Idx) : S16x50000x1.Idx := fun a => match a with
  | ⟨0, _⟩ => ⟨(y 0).val, ValueIdx.idx2_lt0 y⟩ | ⟨1, _⟩ => ⟨(y 1).val, ValueIdx.idx2_lt1 y⟩ | ⟨2, _⟩ => ⟨0, Nat.one_pos⟩

/-- A third axis of extent one changes nothing. -/
theorem third_axis (x : IVec S16x50000 32) (y : S16x50000.Idx) :
    broadcastInDim S16x50000x1 ![0, 1] bcast_S16x50000_S16x50000x1_0_1 x (at1 y) = x y := by
  refine broadcastInDim_apply _ _ x (at1 y) y fun a => ?_
  match a with
  | ⟨0, _⟩ => rfl
  | ⟨1, _⟩ => rfl

include hB in
/-- Row `y 0` of the column, everywhere. -/
theorem rows_apply (y : S16x50000.Idx) :
    broadcastInDim S16x50000 ![0, 1] bcast_S16x1_S16x50000_0_1 (rows B) y = B (ValueIdx.ix1 ⟨(y 0).val, ValueIdx.idx2_lt0 y⟩) := by
  have e : broadcastInDim S16x50000 ![0, 1] bcast_S16x1_S16x50000_0_1 (rows B) y
      = rows B (ValueIdx.ix2 ⟨(y 0).val, ValueIdx.idx2_lt0 y⟩ ⟨0, Nat.one_pos⟩) := by
    refine broadcastInDim_apply _ _ (rows B) y _ fun a => ?_
    match a with
    | ⟨0, _⟩ => rfl
    | ⟨1, _⟩ => rfl
  have c : broadcastInDim S16x1 ![0] bcast_S16_S16x1_0 B (ValueIdx.ix2 ⟨(y 0).val, ValueIdx.idx2_lt0 y⟩ ⟨0, Nat.one_pos⟩)
      = B (ValueIdx.ix1 ⟨(y 0).val, ValueIdx.idx2_lt0 y⟩) := by
    refine broadcastInDim_apply _ _ B _ _ fun a => ?_
    match a with
    | ⟨0, _⟩ => rfl
  rw [e]
  show Scalar.select (IntOp.cmpi .slt (broadcastInDim S16x1 ![0] bcast_S16_S16x1_0 B _) 0#32)
    (IntOp.addi (broadcastInDim S16x1 ![0] bcast_S16_S16x1_0 B _) 16#32) (broadcastInDim S16x1 ![0] bcast_S16_S16x1_0 B _) = _
  rw [c]
  exact (wrap_word _ _ (lt_trans (hB _) (by decide))).1

include hX in
theorem cols_apply (y : S16x50000.Idx) : cols X y = X y :=
  (wrap_word (X y) 100000#32 (lt_trans (hX y) (by decide))).1

include hB in
/-- The first component of the pair for `y` is its batch's row, -/
theorem pairs_row (y : S16x50000.Idx) : pairs B X (Take.pairIdx y 0) = B (ValueIdx.ix1 ⟨(y 0).val, ValueIdx.idx2_lt0 y⟩) := by
  refine (concatenate_pair_apply_left (t := S16x50000x2) (s₁ := S16x50000x1) (s₂ := S16x50000x1) 2 _ _ _ (Take.pairIdx y 0) rfl (at1 y) fun b => ?_).trans
    ((third_axis _ y).trans (rows_apply B hB y))
  match b with
  | ⟨0, _⟩ => rfl
  | ⟨1, _⟩ => rfl
  | ⟨2, _⟩ => rfl

include hX in
/-- and the second its index. -/
theorem pairs_col (y : S16x50000.Idx) : pairs B X (Take.pairIdx y 1) = X y := by
  refine (concatenate_pair_apply_right (t := S16x50000x2) (s₁ := S16x50000x1) (s₂ := S16x50000x1) 2 _ _ _ (Take.pairIdx y 1) rfl rfl (at1 y)
    (fun b hb => ?_) rfl).trans ((third_axis _ y).trans (cols_apply X hX y))
  match b with
  | ⟨0, _⟩ => rfl
  | ⟨1, _⟩ => rfl
  | ⟨2, _⟩ => exact absurd rfl hb

include hB hX in
/-- The gathered element for `y`. -/
theorem gathered (A : S16x100000.Idx → EReal) (y : S16x50000.Idx) :
    Host.gather gather_S16x100000_S16x50000x2_S16x50000_n_01_n_n_01_2_11 A (pairs B X) y
      = A (ValueIdx.ix2 ⟨(B (ValueIdx.ix1 ⟨(y 0).val, ValueIdx.idx2_lt0 y⟩)).toNat, hB _⟩ ⟨(X y).toNat, hX y⟩) := by
  refine Take.pair_apply (N := 16) (M := 100000) (R := 16) (C := 50000) _ A (pairs B X) y _ _ ?_ ?_
  · rw [pairs_row B X hB]
    exact (wrap_word _ 0#32 (lt_trans (hB _) (by decide))).2
  · rw [pairs_col B X hX]
    exact (wrap_word _ 0#32 (lt_trans (hX y) (by decide))).2

/-! ## The sum -/

variable (A : S16x100000.Idx → EReal) (H : S16x50000.Idx → EReal)

/-- The gathered predictions less the targets. -/
def diffs : FVec Ideal S16x50000 .f32 :=
  subf (Host.gather gather_S16x100000_S16x50000x2_S16x50000_n_01_n_n_01_2_11 A (pairs B X)) H

include hB hX in
/-- Its square at position `n` of batch `s`. -/
theorem diffs_sq (s : Fin 16) (n : Fin 50000) :
    mulf (diffs B X A H) (diffs B X A H) (ix2 s n) = KI.sqP A B X H s.val (0 + n.val) := by
  have hs := s.isLt
  have hn := n.isLt
  have eB : KI.ixB16 s.val = ValueIdx.ix1 s := by
    funext a
    match a with
    | ⟨0, _⟩ => exact Fin.ext (show s.val % 16 = s.val by omega)
  have eT : KI.ixT s.val (0 + n.val) = ix2 s n := by
    funext a
    match a with
    | ⟨0, _⟩ => exact Fin.ext (show s.val % 16 = s.val by omega)
    | ⟨1, _⟩ => exact Fin.ext (show (0 + n.val) % 50000 = n.val by omega)
  have hr := hB (ValueIdx.ix1 s)
  have hc := hX (ix2 s n)
  have eP : KI.ixP (B (ValueIdx.ix1 s)).toNat (X (ix2 s n)).toNat = ValueIdx.ix2 ⟨(B (ValueIdx.ix1 s)).toNat, hr⟩ ⟨(X (ix2 s n)).toNat, hc⟩ := by
    funext a
    match a with
    | ⟨0, _⟩ => exact Fin.ext (show (B (ValueIdx.ix1 s)).toNat % 16 = (B (ValueIdx.ix1 s)).toNat from Nat.mod_eq_of_lt hr)
    | ⟨1, _⟩ => exact Fin.ext (show (X (ix2 s n)).toNat % 100000 = (X (ix2 s n)).toNat from Nat.mod_eq_of_lt hc)
  have d : diffs B X A H (ix2 s n) = KI.rowOf (F := Ideal) A B s.val (KI.tixOf X s.val (0 + n.val)).toNat - KI.thOf (F := Ideal) H s.val (0 + n.val) := by
    show Host.gather gather_S16x100000_S16x50000x2_S16x50000_n_01_n_n_01_2_11 A (pairs B X) (ix2 s n) - H (ix2 s n) = _
    unfold KI.rowOf KI.tixOf KI.thOf
    rw [eB, eT, eP, gathered B X hB hX A]
    rfl
  show diffs B X A H (ix2 s n) * diffs B X A H (ix2 s n) = _
  rw [d]
  rfl

include hB hX in
/-- The reference's sum is the sum of all squared differences. -/
theorem host_sum : Host.reduceAdd (mulf (diffs B X A H) (diffs B X A H)) (constant S_ .f32 0x00000000#32 : FVec Ideal S_ .f32)
    reducesTo_S16x50000_S_d0_1 h_S_ = fun _ => KI.total A B X H := by
  funext j
  refine (Ideal.hostReduceAdd_r2_a01 (n0 := 16) (n1 := 50000) reducesTo_S16x50000_S_d0_1 _ _ j).trans ?_
  have e : ∑ s : Fin 16, ∑ n : Fin 50000, mulf (diffs B X A H) (diffs B X A H) (ix2 s n) = KI.total A B X H := by
    unfold KI.total
    rw [← Fin.sum_univ_eq_sum_range (fun s => seg (KI.sqP A B X H s) 0 50000) 16]
    refine Finset.sum_congr rfl fun s _ => ?_
    rw [← of_fin (KI.sqP A B X H s.val) 0 50000]
    exact Finset.sum_congr rfl fun n _ => diffs_sq B X hB hX A H s n
  rw [e]
  show Ideal.ofBits .f32 0x00000000#32 + _ = _
  rw [Ideal.ofBits_zero_f32, zero_add]

end

end Cert.Proof.RI

end
-- ==== Proof.Equation.lean ====
/- The value claim: from indices in range, the program and the reference end with the same result over the extended reals. -/
module

public import proofs.«01_k».proof.Proof.Frames
public import proofs.«01_k».proof.Proof.RefValue

@[expose] public section

noncomputable section

namespace Cert.Proof

open Idealize.ShloMosaic Idealize.SL.Sem

section

open Cert.ReferenceIdeal Cert.ReferenceIdeal.Gen

/-- What the reference leaves in its result, of its four arguments. -/
def refOut (A : S16x100000.Idx → EReal) (B : IVec S16 32) (X : IVec S16x50000 32) (H : S16x50000.Idx → EReal) : FVec Ideal S_ .f32 :=
  Host.divf (Host.reduceAdd (mulf (RI.diffs B X A H) (RI.diffs B X A H)) (constant S_ .f32 0x00000000#32) reducesTo_S16x50000_S_d0_1 h_S_)
    (constant S_ .f32 0x49435000#32)

end

/-- From the same arguments, indices in range, it is what the kernel leaves: both divide the sum of all squared differences. -/
theorem refOut_eq (m : (ℓ : Loc Cert.KernelIdeal.nD Cert.KernelIdeal.τ Cert.KernelIdeal.sig) → Buf (Elt Ideal) ℓ) (hm : KI.PreOK m) (c : Dev Cert.KernelIdeal.nD)
    (A : Cert.ReferenceIdeal.S16x100000.Idx → EReal) (B : IVec Cert.ReferenceIdeal.S16 32) (X : IVec Cert.ReferenceIdeal.S16x50000 32)
    (H : Cert.ReferenceIdeal.S16x50000.Idx → EReal)
    (eA : A = m (KI.pLoc c)) (eB : B = m (KI.bLoc c)) (eX : X = m (KI.xLoc c)) (eH : H = m (KI.hLoc c)) :
    refOut A B X H = KI.outM m c := by
  subst eA eB eX eH
  unfold refOut KI.outM KI.resM
  rw [RI.host_sum _ _ (hm c).1 (hm c).2]
  exact congrArg (fun z => Host.divf z _) (KI.host_sum _ _ _ _).symm

/-- The two programs agree. -/
theorem algebraic : Cert.algebraic_KernelIdeal_ReferenceIdeal := fun m g m' g' h hag =>
  ⟨fun c => KI.outM m c,
    (θ_run Cert.KernelIdeal.defs _ _).mono (fun _ hr c => ⟨(hr.1 c).2, (hr.1 c).1⟩) (KI.run_main (F := Ideal) m g (preOK_I m h)),
    (θ_run Cert.ReferenceIdeal.defs _ _).mono
      (fun _ hr c => ⟨(hr c).1.trans (refOut_eq m (preOK_I m h) c _ _ _ _ (hag c).1 (hag c).2.1 (hag c).2.2.1 (hag c).2.2.2), (hr c).2⟩)
      (Cert.ReferenceIdeal.Value.run (F := Ideal) m' g')⟩

end Cert.Proof

end
-- ==== Proof.lean ====
/- The certificate's proof, assembled. -/
module

public import proofs.«01_k».proof.Defs
public import proofs.«01_k».proof.Proof.Equation

@[expose] public section

noncomputable section

namespace Cert.Proof

/-- Everything the certificate claims. -/
theorem claim : Cert.Claim := ⟨Cert.Kernel.Gen.facts, Cert.KernelIdeal.Gen.facts, Cert.ReferenceIdeal.Gen.facts, Cert.Pre_in_range.Gen.facts,
  frame_P, frame_I, frame_R, frame_R_pre, trivial, algebraic⟩

end Cert.Proof

end
